-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_beta1" .f32 0xBE1BA6B3#32 (((Real.log (9 / 10)) * (Real.log 2)⁻¹ : ℝ) : EReal)
  ∧ IdealRules.named_const.Statement Cert.KernelIdeal.κ "log2_beta2" .f32 0xBABD3108#32 (((Real.log (999 / 1000)) * (Real.log 2)⁻¹ : ℝ) : EReal)
  ∧ IdealRules.named_const.Statement Cert.KernelIdeal.κ "minus_lr_m_gain" .f32 0xB8D1B717#32 ((-1 / 10000 : ℝ) : EReal)
  ∧ IdealRules.named_const.Statement Cert.KernelIdeal.κ "eps" .f32 0x322BCC77#32 ((1 / 100000000 : ℝ) : EReal)
  ∧ IdealRules.named_const.Statement Cert.KernelIdeal.κ "minus_lr_wd" .f32 0xB727C5AC#32 ((-1 / 100000 : ℝ) : EReal)
  ∧ IdealRules.named_const.Statement Cert.KernelIdeal.κ "m_gain_over_127" .f32 0x3A4E69A0#32 ((1 / 1270 : ℝ) : EReal)
  ∧ IdealRules.named_const.Statement Cert.KernelIdeal.κ "v_gain_over_127" .f32 0x37041AA4#32 ((1 / 127000 : ℝ) : EReal)

def algebraic_KernelIdeal_ReferenceIdeal_on_update_defined [hKernelIdeal : Cert.KernelIdeal.Facts] [hReferenceIdeal : Cert.ReferenceIdeal.Facts] [hOn_update_defined : Cert.On_update_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![11904, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v1_0) i = v0 c i)
          ∧ (∀ i : (⟨2, ![11904, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v1_1) i = v1 c i)
          ∧ (∀ i : (⟨2, ![93, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v1_2) i = v2 c i)
          ∧ (∀ i : (⟨2, ![11904, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v1_3) i = v3 c i)
          ∧ (∀ i : (⟨2, ![93, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v1_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![11904, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v1_0) i = v0 c i)
          ∧ (∀ i : (⟨2, ![11904, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v1_1) i = v1 c i)
          ∧ (∀ i : (⟨2, ![93, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v1_2) i = v2 c i)
          ∧ (∀ i : (⟨2, ![11904, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v1_3) i = v3 c i)
          ∧ (∀ i : (⟨2, ![93, 8192]⟩ : Shape).Idx, (Cert.On_update_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v1_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_update_defined : Cert.On_update_defined.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_update_defined (hKernelIdeal := hKernelIdeal) (hReferenceIdeal := hReferenceIdeal) (hOn_update_defined := hOn_update_defined)
-- ==== On_update_defined.lean ====
abbrev S11904x8192 : Shape := ⟨2, ![11904, 8192]⟩
abbrev S93x8192 : Shape := ⟨2, ![93, 8192]⟩
abbrev S_ : Shape := ⟨0, ![]⟩
abbrev S93x128x8192 : Shape := ⟨3, ![93, 128, 8192]⟩
abbrev S93x1x8192 : Shape := ⟨3, ![93, 1, 8192]⟩

class Facts : Prop where
  bitsLt_bf16_f32 : FTy.bits .bf16 < FTy.bits .f32
  shapeCasts_S11904x8192_S93x128x8192 : S11904x8192.ShapeCasts S93x128x8192
  natLt_8_32 : 8 < 32
  bcast_S_S93x8192 : S_.BroadcastsInDim S93x8192 (![] : Fin 0 → Fin S93x8192.rank)
  bcast_S93x8192_S93x1x8192_0_2 : S93x8192.BroadcastsInDim S93x1x8192 (![0, 2] : Fin 2 → Fin S93x1x8192.rank)
  bcast_S93x1x8192_S93x128x8192_0_1_2 : S93x1x8192.BroadcastsInDim S93x128x8192 (![0, 1, 2] : Fin 3 → Fin S93x128x8192.rank)
  shapeCasts_S93x128x8192_S11904x8192 : S93x128x8192.ShapeCasts S11904x8192
  bcast_S_S11904x8192 : S_.BroadcastsInDim S11904x8192 (![] : Fin 0 → Fin S11904x8192.rank)

variable [Facts]

def fn_part2 {F : FTy → Type} [FloatOps F] (main_arg6 : IVec S_ 32) (main_v30 : IVec S11904x8192 1) (main_v37 : IVec S11904x8192 1) (main_v38 : IVec S11904x8192 1) (main_c_6 : IVec S_ 1) : IVec S11904x8192 1 × IVec S11904x8192 1 × IVec S93x8192 1 × IVec S11904x8192 1 × IVec S93x8192 1 :=
  let main_v39 : IVec S93x8192 1 := broadcastInDim S93x8192 ![] bcast_S_S93x8192 main_c_6
  let main_v40 : IVec S11904x8192 1 := andi main_v30 main_v37
  let main_c_7 : IVec S_ 32 := constantI S_ 32 0#32
  let main_v41 : IVec S_ 1 := cmpi .ne main_arg6 main_c_7
  let main_v42 : IVec S11904x8192 1 := broadcastInDim S11904x8192 ![] bcast_S_S11904x8192 main_v41
  let main_v43 : IVec S11904x8192 1 := andi main_v40 main_v42
  (main_v43, main_v38, main_v39, main_v38, main_v39)

def fn_part1 {F : FTy → Type} [FloatOps F] (main_arg0 : FVec F S11904x8192 .f32) (main_arg6 : IVec S_ 32) (main_v20 : FVec F S93x128x8192 .f32) (main_v21 : FVec F S11904x8192 .f32) : IVec S11904x8192 1 × IVec S11904x8192 1 × IVec S93x8192 1 × IVec S11904x8192 1 × IVec S93x8192 1 :=
  let main_v22 : FVec F S11904x8192 .f32 := shapeCast S11904x8192 main_v20 shapeCasts_S93x128x8192_S11904x8192
  let main_cst_1 : FVec F S_ .f32 := constant S_ .f32 0x02081CEA#32
  let main_v23 : FVec F S11904x8192 .f32 := broadcastInDim S11904x8192 ![] bcast_S_S11904x8192 main_cst_1
  let main_v24 : IVec S11904x8192 1 := cmpf .oge main_v22 main_v23
  let main_cst_2 : FVec F S_ .f32 := constant S_ .f32 0x7F800000#32
  let main_v25 : FVec F S11904x8192 .f32 := broadcastInDim S11904x8192 ![] bcast_S_S11904x8192 main_cst_2
  let main_v26 : IVec S11904x8192 1 := cmpf .olt main_v22 main_v25
  let main_v27 : IVec S11904x8192 1 := andi main_v24 main_v26
  let main_cst_3 : FVec F S_ .f32 := constant S_ .f32 0x00000000#32
  let main_v28 : FVec F S11904x8192 .f32 := broadcastInDim S11904x8192 ![] bcast_S_S11904x8192 main_cst_3
  let main_v29 : IVec S11904x8192 1 := cmpf .oeq main_v21 main_v28
  let main_v30 : IVec S11904x8192 1 := ori main_v27 main_v29
  let main_v31 : FVec F S11904x8192 .f32 := Host.absf main_arg0
  let main_cst_4 : FVec F S_ .f32 := constant S_ .f32 0x7F800000#32
  let main_v32 : FVec F S11904x8192 .f32 := broadcastInDim S11904x8192 ![] bcast_S_S11904x8192 main_cst_4
  let main_v33 : IVec S11904x8192 1 := cmpf .olt main_v31 main_v32
  let main_v34 : FVec F S11904x8192 .f32 := Host.absf main_v21
  let main_cst_5 : FVec F S_ .f32 := constant S_ .f32 0x7F800000#32
  let main_v35 : FVec F S11904x8192 .f32 := broadcastInDim S11904x8192 ![] bcast_S_S11904x8192 main_cst_5
  let main_v36 : IVec S11904x8192 1 := cmpf .olt main_v34 main_v35
  let main_v37 : IVec S11904x8192 1 := ori main_v33 main_v36
  let main_c : IVec S_ 1 := constantI S_ 1 1#1
  let main_v38 : IVec S11904x8192 1 := broadcastInDim S11904x8192 ![] bcast_S_S11904x8192 main_c
  let main_c_6 : IVec S_ 1 := constantI S_ 1 1#1
  fn_part2 (F := F) main_arg6 main_v30 main_v37 main_v38 main_c_6

def fn {F : FTy → Type} [FloatOps F] (main_arg0 : FVec F S11904x8192 .f32) (main_arg1 : FVec F S11904x8192 .bf16) (main_arg2 : IVec S11904x8192 8) (main_arg3 : FVec F S93x8192 .f32) (main_arg4 : IVec S11904x8192 8) (main_arg5 : FVec F S93x8192 .f32) (main_arg6 : IVec S_ 32) : IVec S11904x8192 1 × IVec S11904x8192 1 × IVec S93x8192 1 × IVec S11904x8192 1 × IVec S93x8192 1 :=
  let main_v0 : FVec F S11904x8192 .f32 := (extf .f32 · bitsLt_bf16_f32) main_arg1
  let main_v1 : FVec F S93x128x8192 .f32 := shapeCast S93x128x8192 main_v0 shapeCasts_S11904x8192_S93x128x8192
  let main_v2 : IVec S11904x8192 32 := (extsi 32 · natLt_8_32) main_arg2
  let main_v3 : FVec F S11904x8192 .f32 := sitofp .f32 main_v2
  let main_v4 : FVec F S93x128x8192 .f32 := shapeCast S93x128x8192 main_v3 shapeCasts_S11904x8192_S93x128x8192
  let main_cst : FVec F S_ .f32 := constant S_ .f32 0x41100000#32
  let main_v5 : FVec F S93x8192 .f32 := broadcastInDim S93x8192 ![] bcast_S_S93x8192 main_cst
  let main_v6 : FVec F S93x8192 .f32 := mulf main_arg3 main_v5
  let main_v7 : FVec F S93x1x8192 .f32 := broadcastInDim S93x1x8192 ![0, 2] bcast_S93x8192_S93x1x8192_0_2 main_v6
  let main_v8 : FVec F S93x128x8192 .f32 := broadcastInDim S93x128x8192 ![0, 1, 2] bcast_S93x1x8192_S93x128x8192_0_1_2 main_v7
  let main_v9 : FVec F S93x128x8192 .f32 := mulf main_v4 main_v8
  let main_v10 : FVec F S93x128x8192 .f32 := addf main_v9 main_v1
  let main_v11 : IVec S11904x8192 32 := (extsi 32 · natLt_8_32) main_arg4
  let main_v12 : FVec F S11904x8192 .f32 := sitofp .f32 main_v11
  let main_v13 : FVec F S93x128x8192 .f32 := shapeCast S93x128x8192 main_v12 shapeCasts_S11904x8192_S93x128x8192
  let main_cst_0 : FVec F S_ .f32 := constant S_ .f32 0x4479C000#32
  let main_v14 : FVec F S93x8192 .f32 := broadcastInDim S93x8192 ![] bcast_S_S93x8192 main_cst_0
  let main_v15 : FVec F S93x8192 .f32 := mulf main_arg5 main_v14
  let main_v16 : FVec F S93x1x8192 .f32 := broadcastInDim S93x1x8192 ![0, 2] bcast_S93x8192_S93x1x8192_0_2 main_v15
  let main_v17 : FVec F S93x128x8192 .f32 := broadcastInDim S93x128x8192 ![0, 1, 2] bcast_S93x1x8192_S93x128x8192_0_1_2 main_v16
  let main_v18 : FVec F S93x128x8192 .f32 := mulf main_v13 main_v17
  let main_v19 : FVec F S93x128x8192 .f32 := mulf main_v1 main_v1
  let main_v20 : FVec F S93x128x8192 .f32 := addf main_v18 main_v19
  let main_v21 : FVec F S11904x8192 .f32 := shapeCast S11904x8192 main_v10 shapeCasts_S93x128x8192_S11904x8192
  fn_part1 (F := F) main_arg0 main_arg6 main_v20 main_v21
-- ==== Kernel.lean ====
abbrev S11904x8192 : Shape := ⟨2, ![11904, 8192]⟩
abbrev S93x8192 : Shape := ⟨2, ![93, 8192]⟩
abbrev S_ : Shape := ⟨0, ![]⟩
abbrev S1x1 : Shape := ⟨2, ![1, 1]⟩
abbrev S1024x512 : Shape := ⟨2, ![1024, 512]⟩
abbrev S8x512 : Shape := ⟨2, ![8, 512]⟩
abbrev S2x8x128 : Shape := ⟨3, ![2, 8, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩

abbrev nBuf : Space → Nat
  | .hbm => 13
  | .vmem => 23
  | .smem => 1
  | _ => 0

abbrev bufTy : (tb : Table) → Fin (tcTables nBuf tb) → BufTy
  | .hbm, ⟨0, _⟩ => ⟨S11904x8192, .f32⟩
  | .hbm, ⟨1, _⟩ => ⟨S11904x8192, .bf16⟩
  | .hbm, ⟨2, _⟩ => ⟨S11904x8192, .i8⟩
  | .hbm, ⟨3, _⟩ => ⟨S93x8192, .f32⟩
  | .hbm, ⟨4, _⟩ => ⟨S11904x8192, .i8⟩
  | .hbm, ⟨5, _⟩ => ⟨S93x8192, .f32⟩
  | .hbm, ⟨6, _⟩ => ⟨S_, .i32⟩
  | .hbm, ⟨7, _⟩ => ⟨S1x1, .i32⟩
  | .hbm, ⟨8, _⟩ => ⟨S11904x8192, .f32⟩
  | .hbm, ⟨9, _⟩ => ⟨S11904x8192, .i8⟩
  | .hbm, ⟨10, _⟩ => ⟨S93x8192, .f32⟩
  | .hbm, ⟨11, _⟩ => ⟨S11904x8192, .i8⟩
  | .hbm, ⟨12, _⟩ => ⟨S93x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .i8⟩
  | .local _ .vmem, ⟨5, _⟩ => ⟨S1024x512, .i8⟩
  | .local _ .vmem, ⟨6, _⟩ => ⟨S8x512, .f32⟩
  | .local _ .vmem, ⟨7, _⟩ => ⟨S8x512, .f32⟩
  | .local _ .vmem, ⟨8, _⟩ => ⟨S1024x512, .i8⟩
  | .local _ .vmem, ⟨9, _⟩ => ⟨S1024x512, .i8⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S1024x512, .i8⟩
  | .local _ .vmem, ⟨15, _⟩ => ⟨S1024x512, .i8⟩
  | .local _ .vmem, ⟨16, _⟩ => ⟨S8x512, .f32⟩
  | .local _ .vmem, ⟨17, _⟩ => ⟨S8x512, .f32⟩
  | .local _ .vmem, ⟨18, _⟩ => ⟨S1024x512, .i8⟩
  | .local _ .vmem, ⟨19, _⟩ => ⟨S1024x512, .i8⟩
  | .local _ .vmem, ⟨20, _⟩ => ⟨S8x512, .f32⟩
  | .local _ .vmem, ⟨21, _⟩ => ⟨S8x512, .f32⟩
  | .local _ .vmem, ⟨22, _⟩ => ⟨S2x8x128, .f32⟩
  | .local _ .smem, ⟨0, _⟩ => ⟨S1x1, .i32⟩
  | _, _ => ⟨S11904x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![12, 16], ![false, false]⟩

@[reducible] def k0_t1_loop : Scf.Loop 32 :=
  let c0_i32_2 : BitVec 32 := 0#32
  let c4_i32 : BitVec 32 := 4#32
  let v5 : BitVec 32 := Scalar.addi c0_i32_2 c4_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  v6
def k0_off1 (k0_t1 : Fin k0_t1_loop.trips) : Fin 2 → Nat :=
  let c0_8 : Index := 0#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v12 : Index := Scalar.indexCast v7
  ![0, v12.toNat]
def k0_off2 (k0_t1 : Fin k0_t1_loop.trips) : Fin 2 → Nat :=
  let c0_11 : Index := 0#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v20 : Index := Scalar.indexCast v7
  ![0, v20.toNat]
def k0_off3 (k0_t1 : Fin k0_t1_loop.trips) : Fin 2 → Nat :=
  let c1_39 : Index := 1#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v104 : Index := Scalar.indexCast v7
  ![1, v104.toNat]
def k0_off4 (k0_t1 : Fin k0_t1_loop.trips) : Fin 2 → Nat :=
  let c128 : Index := 128#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v112 : Index := Scalar.indexCast v7
  ![128, v112.toNat]
def k0_off5 (k0_t1 : Fin k0_t1_loop.trips) : Fin 2 → Nat :=
  let c2 : Index := 2#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v196 : Index := Scalar.indexCast v7
  ![2, v196.toNat]
def k0_off6 (k0_t1 : Fin k0_t1_loop.trips) : Fin 2 → Nat :=
  let c256 : Index := 256#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v204 : Index := Scalar.indexCast v7
  ![256, v204.toNat]
def k0_off7 (k0_t1 : Fin k0_t1_loop.trips) : Fin 2 → Nat :=
  let c3 : Index := 3#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v288 : Index := Scalar.indexCast v7
  ![3, v288.toNat]
def k0_off8 (k0_t1 : Fin k0_t1_loop.trips) : Fin 2 → Nat :=
  let c384 : Index := 384#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v296 : Index := Scalar.indexCast v7
  ![384, v296.toNat]
def k0_off9 (k0_t1 : Fin k0_t1_loop.trips) : Fin 2 → Nat :=
  let c4 : Index := 4#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v380 : Index := Scalar.indexCast v7
  ![4, v380.toNat]
def k0_off10 (k0_t1 : Fin k0_t1_loop.trips) : Fin 2 → Nat :=
  let c512 : Index := 512#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v388 : Index := Scalar.indexCast v7
  ![512, v388.toNat]
def k0_off11 (k0_t1 : Fin k0_t1_loop.trips) : Fin 2 → Nat :=
  let c5 : Index := 5#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v472 : Index := Scalar.indexCast v7
  ![5, v472.toNat]
def k0_off12 (k0_t1 : Fin k0_t1_loop.trips) : Fin 2 → Nat :=
  let c640 : Index := 640#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v480 : Index := Scalar.indexCast v7
  ![640, v480.toNat]
def k0_off13 (k0_t1 : Fin k0_t1_loop.trips) : Fin 2 → Nat :=
  let c6 : Index := 6#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v564 : Index := Scalar.indexCast v7
  ![6, v564.toNat]
def k0_off14 (k0_t1 : Fin k0_t1_loop.trips) : Fin 2 → Nat :=
  let c768 : Index := 768#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v572 : Index := Scalar.indexCast v7
  ![768, v572.toNat]
def k0_off15 (k0_t1 : Fin k0_t1_loop.trips) : Fin 2 → Nat :=
  let c7 : Index := 7#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v656 : Index := Scalar.indexCast v7
  ![7, v656.toNat]
def k0_off16 (k0_t1 : Fin k0_t1_loop.trips) : Fin 2 → Nat :=
  let c896 : Index := 896#32
  let c0_i32_2 : BitVec 32 := 0#32
  let c1_i32 : BitVec 32 := 1#32
  let arg15 : BitVec 32 := Scf.iv c0_i32_2 c1_i32 k0_t1
  let c128_i32 : BitVec 32 := 128#32
  let v6 : BitVec 32 := Scalar.muli arg15 c128_i32
  let v7 : BitVec 32 := v6
  let v664 : Index := Scalar.indexCast v7
  ![896, v664.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "eps" => some ((1 / 100000000 : ℝ) : EReal)
  | "log2_beta1" => some (((Real.log (9 / 10)) * (Real.log 2)⁻¹ : ℝ) : EReal)
  | "log2_beta2" => some (((Real.log (999 / 1000)) * (Real.log 2)⁻¹ : ℝ) : EReal)
  | "m_gain_over_127" => some ((1 / 1270 : ℝ) : EReal)
  | "minus_lr_m_gain" => some ((-1 / 10000 : ℝ) : EReal)
  | "minus_lr_wd" => some ((-1 / 100000 : ℝ) : EReal)
  | "v_gain_over_127" => some ((1 / 127000 : ℝ) : EReal)
  | _ => none
-- ==== ReferenceIdeal.lean ====
abbrev S11904x8192 : Shape := ⟨2, ![11904, 8192]⟩
abbrev S93x8192 : Shape := ⟨2, ![93, 8192]⟩
abbrev S_ : Shape := ⟨0, ![]⟩
abbrev S1x1 : Shape := ⟨2, ![1, 1]⟩
abbrev S93x128x8192 : Shape := ⟨3, ![93, 128, 8192]⟩
abbrev S93x1x8192 : Shape := ⟨3, ![93, 1, 8192]⟩

abbrev nBuf : Space → Nat
  | .hbm => 13
  | .vmem => 11
  | .smem => 1
  | _ => 0

abbrev bufTy : (tb : Table) → Fin (tcTables nBuf tb) → BufTy
  | .hbm, ⟨0, _⟩ => ⟨S11904x8192, .f32⟩
  | .hbm, ⟨1, _⟩ => ⟨S11904x8192, .bf16⟩
  | .hbm, ⟨2, _⟩ => ⟨S11904x8192, .i8⟩
  | .hbm, ⟨3, _⟩ => ⟨S93x8192, .f32⟩
  | .hbm, ⟨4, _⟩ => ⟨S11904x8192, .i8⟩
  | .hbm, ⟨5, _⟩ => ⟨S93x8192, .f32⟩
  | .hbm, ⟨6, _⟩ => ⟨S_, .i32⟩
  | .hbm, ⟨7, _⟩ => ⟨S1x1, .i32⟩
  | .hbm, ⟨8, _⟩ => ⟨S11904x8192, .f32⟩
  | .hbm, ⟨9, _⟩ => ⟨S11904x8192, .i8⟩
  | .hbm, ⟨10, _⟩ => ⟨S93x8192, .f32⟩
  | .hbm, ⟨11, _⟩ => ⟨S11904x8192, .i8⟩
  | .hbm, ⟨12, _⟩ => ⟨S93x8192, .f32⟩
  | .local _ .vmem, ⟨0, _⟩ => ⟨S11904x8192, .f32⟩
  | .local _ .vmem, ⟨1, _⟩ => ⟨S11904x8192, .bf16⟩
  | .local _ .vmem, ⟨2, _⟩ => ⟨S11904x8192, .i8⟩
  | .local _ .vmem, ⟨3, _⟩ => ⟨S93x8192, .f32⟩
  | .local _ .vmem, ⟨4, _⟩ => ⟨S11904x8192, .i8⟩
  | .local _ .vmem, ⟨5, _⟩ => ⟨S93x8192, .f32⟩
  | .local _ .vmem, ⟨6, _⟩ => ⟨S11904x8192, .f32⟩
  | .local _ .vmem, ⟨7, _⟩ => ⟨S11904x8192, .i8⟩
  | .local _ .vmem, ⟨8, _⟩ => ⟨S93x8192, .f32⟩
  | .local _ .vmem, ⟨9, _⟩ => ⟨S11904x8192, .i8⟩
  | .local _ .vmem, ⟨10, _⟩ => ⟨S93x8192, .f32⟩
  | .local _ .smem, ⟨0, _⟩ => ⟨S1x1, .i32⟩
  | _, _ => ⟨S11904x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "beta1" => some ((9 / 10 : ℝ) : EReal)
  | "eps" => some ((1 / 100000000 : ℝ) : EReal)
  | "log2_beta1" => some (((Real.log (9 / 10)) * (Real.log 2)⁻¹ : ℝ) : EReal)
  | "log2_beta2" => some (((Real.log (999 / 1000)) * (Real.log 2)⁻¹ : ℝ) : EReal)
  | "minus_beta2" => some ((-999 / 1000 : ℝ) : EReal)
  | "minus_lr" => some ((-1 / 1000 : ℝ) : EReal)
  | "one_minus_beta1" => some ((1 / 10 : ℝ) : EReal)
  | "one_minus_beta2" => some ((1 / 1000 : ℝ) : EReal)
  | "wd" => some ((1 / 100 : ℝ) : EReal)
  | _ => none

abbrev grid0 : Pipeline.Grid := .none

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11904x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11904x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11904x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S93x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11904x8192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S93x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S11904x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S11904x8192 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S93x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S11904x8192 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S93x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KBody.lean ====
/- What the kernel body does at one grid point, on whole staging memrefs: the inputs' are left as they were, each
   output's gets the pieces of the loop's four trips, and the scratch gets the two coefficient planes at the first
   point and is left alone at every other. -/
module

public import proofs.«01_k».proof.Proof.Gen.Kernel.Loops
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first conditional: the point is the grid's first. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The pieces the loop's trips write into the five outputs, at the scratch's contents `X14`. -/
def pieces (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k0_t1_loop.trips

/-- Every point but the first: the scratch is as it was found. -/
theorem run_rest (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (g14 : BufTy.Contents (Elt F) arg14.view.ty) (hc : ¬ first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} g14)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).1) ∗ (∃ f, arg10.view.loc (c : Thread nD τ) ↦[arg10.view.set]{fullShare} arg10.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.1) ∗ (∃ f, arg11.view.loc (c : Thread nD τ) ↦[arg11.view.set]{fullShare} arg11.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.2.1) ∗ (∃ f, arg12.view.loc (c : Thread nD τ) ↦[arg12.view.set]{fullShare} arg12.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.2.2.1) ∗ (∃ f, arg13.view.loc (c : Thread nD τ) ↦[arg13.view.set]{fullShare} arg13.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.2.2.2) ∗ (arg14.view.loc (c : Thread nD τ) ↦[arg14.view.set]{fullShare} g14)) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  simp only [cc0_adamw_int8_eq_skeleton]; unfold cc0_adamw_int8_skel
  rw [dif_neg hc]
  unfold owns pieces
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, H14, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexists _; iexact H9
  isplitl [H10]; · iexists _; iexact H10
  isplitl [H11]; · iexists _; iexact H11
  isplitl [H12]; · iexists _; iexact H12
  isplitl [H13]; · iexists _; iexact H13
  iexact H14

/-- The first point: whatever the scratch held, the pieces are those at the two planes the point stores into it. -/
theorem run_first (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (g14 : BufTy.Contents (Elt F) arg14.view.ty) (hc : first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} g14)
        ∗ (iprop(∃ X14 : BufTy.Contents (Elt F) arg14.view.ty, owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).1) ∗ (∃ f, arg10.view.loc (c : Thread nD τ) ↦[arg10.view.set]{fullShare} arg10.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.1) ∗ (∃ f, arg11.view.loc (c : Thread nD τ) ↦[arg11.view.set]{fullShare} arg11.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.2.1) ∗ (∃ f, arg12.view.loc (c : Thread nD τ) ↦[arg12.view.set]{fullShare} arg12.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.2.2.1) ∗ (∃ f, arg13.view.loc (c : Thread nD τ) ↦[arg13.view.set]{fullShare} arg13.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.2.2.2) ∗ (arg14.view.loc (c : Thread nD τ) ↦[arg14.view.set]{fullShare} X14)) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  simp only [cc0_adamw_int8_eq_skeleton]; unfold cc0_adamw_int8_skel
  rw [dif_pos hc]
  unfold owns pieces
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, H14, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  iexists _
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexists _; iexact H9
  isplitl [H10]; · iexists _; iexact H10
  isplitl [H11]; · iexists _; iexact H11
  isplitl [H12]; · iexists _; iexact H12
  isplitl [H13]; · iexists _; iexact H13
  iexact H14

/-- A buffer at the writes of a list of pieces, over anything, is a buffer at something. -/
theorem owns_of_writes (c : Dev nD) {sp : Space} {sh : Shape} {e : EltTy} (a : Memref sig .tc sp sh e) (L) :
    (iprop(∃ f, a.view.loc (c : Thread nD τ) ↦[a.view.set]{fullShare} a.view.writes (Elt F) f L) : sProp 𝕄)
      ⊢ iprop(∃ d, owns (c : Thread nD τ) a fullShare d) := by
  unfold owns
  iintro ⟨%f, H⟩
  iexists (a.view.read (Elt F) (a.view.writes (Elt F) f L)); iexists (a.view.writes (Elt F) f L); isplitr; · ipureintro; rfl
  iexact H

/-- Any point, with nothing said of what the outputs and the scratch hold. -/
theorem run_any (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ g14, arg14.view.loc (c : Thread nD τ) ↦[arg14.view.set]{fullShare} g14)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ g14, arg14.view.loc (c : Thread nD τ) ↦[arg14.view.set]{fullShare} g14)) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  iintro ⟨H2, H3, H4, H5, H6, H7, H8, H9, H10, H11, H12, H13, ⟨%g14, H14⟩, Hk⟩
  by_cases hc : first i
  · iapply (run_first c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14 hc E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨%X14, H2, H3, H4, H5, H6, H7, H8, H9, H10, H11, H12, H13, H14⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (owns_of_writes c arg9 _); iexact H9
    isplitl [H10]; · iapply (owns_of_writes c arg10 _); iexact H10
    isplitl [H11]; · iapply (owns_of_writes c arg11 _); iexact H11
    isplitl [H12]; · iapply (owns_of_writes c arg12 _); iexact H12
    isplitl [H13]; · iapply (owns_of_writes c arg13 _); iexact H13
    iexists _; iexact H14
  · iapply (run_rest c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14 hc E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H8, H9, H10, H11, H12, H13, H14⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (owns_of_writes c arg9 _); iexact H9
    isplitl [H10]; · iapply (owns_of_writes c arg10 _); iexact H10
    isplitl [H11]; · iapply (owns_of_writes c arg11 _); iexact H11
    isplitl [H12]; · iapply (owns_of_writes c arg12 _); iexact H12
    isplitl [H13]; · iapply (owns_of_writes c arg13 _); iexact H13
    iexists _; iexact H14

end Cert.Kernel.Body

end
-- ==== Proof.KFrame.lean ====
/- The frame of the kernel: from any memory it runs to the end, changes no argument array and leaves every semaphore
   counter at zero. The eleven clipped windows are stated on the part of their blocks inside the arrays; the five
   outputs are taken at whatever they hold. -/
module

public import proofs.«01_k».proof.Proof.KBody
public import Idealize.ShloMosaic.Lib.Claim

@[expose] public section

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]
variable (m : (ℓ : Loc nD τ sig) → Buf (Elt F) ℓ) (ρ : Dev nD → PrngReg)

/-- The outputs' windows: nothing is said of what they hold. -/
def forgotten : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true

/-- The proof data: each input's staging buffer holds its block, filled out past the array's end by any words. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (Classical.arbitrary _) (iblk m c 1 t)
    | ⟨2, _⟩ => (cfg0.win 2).fill (cfg0.grid.coords t) (Classical.arbitrary _) (iblk m c 2 t)
    | ⟨3, _⟩ => (cfg0.win 3).fill (cfg0.grid.coords t) (Classical.arbitrary _) (iblk m c 3 t)
    | ⟨4, _⟩ => (cfg0.win 4).fill (cfg0.grid.coords t) (Classical.arbitrary _) (iblk m c 4 t)
    | ⟨5, _⟩ => (cfg0.win 5).fill (cfg0.grid.coords t) (Classical.arbitrary _) (iblk m c 5 t)
    | ⟨6, _⟩ => (cfg0.win 6).fill (cfg0.grid.coords t) (Classical.arbitrary _) (iblk m c 6 t)
    | ⟨7, _⟩ => Classical.arbitrary _
    | ⟨8, _⟩ => Classical.arbitrary _
    | ⟨9, _⟩ => Classical.arbitrary _
    | ⟨10, _⟩ => Classical.arbitrary _
    | ⟨11, _⟩ => Classical.arbitrary _
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = (cfg0.win 1).fill (cfg0.grid.coords t) d (iblk m c 1 t) := by
  unfold Dat.before; rw [if_pos (fetch0_1 t)]; rfl
theorem before_2 (c : Dev nD) (t : Fin cfg0.N) (d) : (dats m 0 c).before 2 t d = (cfg0.win 2).fill (cfg0.grid.coords t) d (iblk m c 2 t) := by
  unfold Dat.before; rw [if_pos (fetch0_2 t)]; rfl
theorem before_3 (c : Dev nD) (t : Fin cfg0.N) (d) : (dats m 0 c).before 3 t d = (cfg0.win 3).fill (cfg0.grid.coords t) d (iblk m c 3 t) := by
  unfold Dat.before; rw [if_pos (fetch0_3 t)]; rfl
theorem before_4 (c : Dev nD) (t : Fin cfg0.N) (d) : (dats m 0 c).before 4 t d = (cfg0.win 4).fill (cfg0.grid.coords t) d (iblk m c 4 t) := by
  unfold Dat.before; rw [if_pos (fetch0_4 t)]; rfl
theorem before_5 (c : Dev nD) (t : Fin cfg0.N) (d) : (dats m 0 c).before 5 t d = (cfg0.win 5).fill (cfg0.grid.coords t) d (iblk m c 5 t) := by
  unfold Dat.before; rw [if_pos (fetch0_5 t)]; rfl
theorem before_6 (c : Dev nD) (t : Fin cfg0.N) (d) : (dats m 0 c).before 6 t d = (cfg0.win 6).fill (cfg0.grid.coords t) d (iblk m c 6 t) := by
  unfold Dat.before; rw [if_pos (fetch0_6 t)]; rfl

/-- The body's run at a point of the grid, whichever: the inputs are left alone and the scratch and the outputs hold
    something. -/
theorem body_obligation (c : Dev nD) :
    BodyObligationLoose (dats (F := F) m 0 c) (defs₀ (F := F)) Variants.none () Set.univ forgotten := fun t => by
  rw [bigSep_W0, bigSep_W0, show defs₀ (F := F) .tc cfg0.body (cfg0.bodyArgs t (cfg0.slots t)) = bodyAt0 t from by
    unfold defs₀; rw [Defs.onTc_tc]]
  simp only [forgotten]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%g14, H14⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0, before_1 m c t d1, before_2 m c t d2, before_3 m c t d3, before_4 m c t d4, before_5 m c t d5, before_6 m c t d6]
  unfold bodyAt0
  iapply (run_any (F := F) c (cfg0.grid.coords t) _ _ _ _ _ _ _ _ _ _ _ _ _ _ _ _ _ _ _ _ _ _ _ _ _ _ (iblk m c 0 t) ((cfg0.win 1).fill (cfg0.grid.coords t) d1 (iblk m c 1 t)) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H14]; · iexists g14; rw [show (Memref.whole cc0_scratch0 : Memref sig .tc _ _ _).view.set = Finset.univ from View.set_whole _]; iexact H14
  iintro ⟨H0, H1, H2, H3, H4, H5, H6, H7, H8, H9, H10, H11, ⟨%e14, H14⟩⟩
  isplitl [H14 Hr]
  · isplitl [H14]; · iexists e14; rw [← show (Memref.whole cc0_scratch0 : Memref sig .tc _ _ _).view.set = Finset.univ from View.set_whole _]; iexact H14
    iexact Hr
  isplitl [Ho]; · iexact Ho
  isplitl [H0]; · iexact H0
  isplitl [H1]
  · iexists d1
    rw [show (cfg0.win 1).cut (cfg0.grid.coords t) ((dats m 0 c).after 1 t) = iblk m c 1 t from (cfg0.win 1).cut_fill _ _ _]
    iexact H1
  isplitl [H2]
  · iexists d2
    rw [show (cfg0.win 2).cut (cfg0.grid.coords t) ((dats m 0 c).after 2 t) = iblk m c 2 t from (cfg0.win 2).cut_fill _ _ _]
    iexact H2
  isplitl [H3]
  · iexists d3
    rw [show (cfg0.win 3).cut (cfg0.grid.coords t) ((dats m 0 c).after 3 t) = iblk m c 3 t from (cfg0.win 3).cut_fill _ _ _]
    iexact H3
  isplitl [H4]
  · iexists d4
    rw [show (cfg0.win 4).cut (cfg0.grid.coords t) ((dats m 0 c).after 4 t) = iblk m c 4 t from (cfg0.win 4).cut_fill _ _ _]
    iexact H4
  isplitl [H5]
  · iexists d5
    rw [show (cfg0.win 5).cut (cfg0.grid.coords t) ((dats m 0 c).after 5 t) = iblk m c 5 t from (cfg0.win 5).cut_fill _ _ _]
    iexact H5
  isplitl [H6]
  · iexists d6
    rw [show (cfg0.win 6).cut (cfg0.grid.coords t) ((dats m 0 c).after 6 t) = iblk m c 6 t from (cfg0.win 6).cut_fill _ _ _]
    iexact H6
  isplitl [H7]
  · iexact H7
  isplitl [H8]
  · iexact H8
  isplitl [H9]
  · iexact H9
  isplitl [H10]
  · iexact H10
  · iexact H11

set_option backward.isDefEq.respectTransparency.types false in
/-- The launch: it runs to the end, with every input array as it was found and every semaphore counter at zero. -/
theorem run_main : θ_run defs (onTc (τ := τ) (main (F := F))) (s₀ m ρ)
    (fun r => RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := body_obligation m) (hshare := fun c => (dats m 0 c).share_full fun _ => rfl)
    (howed := fun _ _ => rfl) (V := V m) (hmain := hmain m Variants.none) (hA := fun _ _ => rfl) (hΦ := fun _ _ => rfl)

/-- The frame claim: no argument array changes and every semaphore counter ends at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => ⟨
      (RDat.FramePost.arr_in h.1 c 1 rfl).trans (V_main_arg0 m c),
      (RDat.FramePost.arr_in h.1 c 2 rfl).trans (V_main_arg1 m c),
      (RDat.FramePost.arr_in h.1 c 3 rfl).trans (V_main_arg2 m c),
      (RDat.FramePost.arr_in h.1 c 4 rfl).trans (V_main_arg3 m c),
      (RDat.FramePost.arr_in h.1 c 5 rfl).trans (V_main_arg4 m c),
      (RDat.FramePost.arr_in h.1 c 6 rfl).trans (V_main_arg5 m c),
      ((h.1 c).2 main_arg6 (Pipeline.mem_restRefs_of main_arg6 (by decide) (by decide))).trans (V_main_arg6 m c)⟩, h.2⟩) (run_main m ρ)

end Cert.Kernel.FrameProof

end
-- ==== Proof.KIBody.lean ====
/- What the kernel body does at one grid point, on whole staging memrefs: the inputs' are left as they were, each
   output's gets the pieces of the loop's four trips, and the scratch gets the two coefficient planes at the first
   point and is left alone at every other. -/
module

public import proofs.«01_k».proof.Proof.Gen.KernelIdeal.Loops
public import proofs.«01_k».proof.Proof.Gen.KernelIdeal.Frame
public import Idealize.ShloMosaic.Lib.WholeRead
public import Idealize.ShloMosaic.Lib.Writes

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The body's first conditional: the point is the grid's first. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The pieces the loop's trips write into the five outputs, at the scratch's contents `X14`. -/
def pieces (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k0_t1_loop.trips

/-- A place of the scratch inside its plane. -/
def plane (y : S2x8x128.Idx) : S1x8x128.Idx
  | ⟨0, _⟩ => (⟨0, Nat.one_pos⟩ : Fin 1)
  | ⟨1, _⟩ => y 1
  | ⟨2, _⟩ => y 2

theorem plane_eq (y : S2x8x128.Idx) (x : S1x8x128.Idx) (h1 : (y 1).val = (x 1).val) (h2 : (y 2).val = (x 2).val) : x = plane y := by
  funext (a : Fin 3)
  have hx : (x 0).val < 1 := (x 0).isLt
  match a with
  | ⟨0, _⟩ => exact Fin.ext (by show (x 0).val = 0; omega)
  | ⟨1, _⟩ => exact Fin.ext h1.symm
  | ⟨2, _⟩ => exact Fin.ext h2.symm

/-- The scratch after the first point, for the step count `w`: two planes, one per coefficient. -/
def coef (w : Elt F .i32) : Vec F S2x8x128 .f32 := fun y =>
  if (y 0).val = 0 then k0_pay3 (F := F) w (plane y) else k0_pay4 (F := F) w (plane y)

/-- The two planes stored over anything are the scratch's contents. -/
theorem scratch_eq (arg14 : Memref sig .tc .vmem S2x8x128 .f32) (harg14 : arg14.IsWhole) (f : BufTy.Contents (Elt F) arg14.view.ty) (w : Elt F .i32) :
    arg14.view.writes (Elt F) f [⟨Rect.unit ![1, 0, 0] S1x8x128.size inb_S2x8x128_S1x8x128_1_0_0, k0_pay4 (F := F) w⟩, ⟨Rect.unit ![0, 0, 0] S1x8x128.size inb_S2x8x128_S1x8x128_0_0_0, k0_pay3 (F := F) w⟩]
      = harg14.unread (coef w) := by
  refine harg14.eq_unread (funext fun y => ?_)
  refine View.read_writes_apply_of_pieces arg14.view f (coef w) _ ?_ y ?_
  · intro p hp x
    rcases List.mem_cons.1 hp with rfl | hp
    · exact (congrArg _ (plane_eq _ x (by show 0 + 1 * (x 1).val = _; omega) (by show 0 + 1 * (x 2).val = _; omega))).trans
        (if_neg (show ¬ (1 + 1 * (x 0).val = 0) by omega)).symm
    · obtain rfl := List.mem_singleton.1 hp
      have hx : (x 0).val < 1 := (x 0).isLt
      exact (congrArg _ (plane_eq _ x (by show 0 + 1 * (x 1).val = _; omega) (by show 0 + 1 * (x 2).val = _; omega))).trans
        (if_pos (show 0 + 1 * (x 0).val = 0 by omega)).symm
  · have h0 : (y 0).val < 2 := (y 0).isLt
    have h1 : (y 1).val < 8 := (y 1).isLt
    have h2 : (y 2).val < 128 := (y 2).isLt
    by_cases hy : (y 0).val = 0
    · refine ⟨_, List.mem_cons_of_mem _ List.mem_cons_self, ?_⟩
      refine (Rect.mem_set_unit (inb := inb_S2x8x128_S1x8x128_0_0_0)).2 fun (a : Fin 3) => ?_
      match a with
      | ⟨0, _⟩ => exact ⟨Nat.zero_le _, by show (y 0).val < 0 + 1; omega⟩
      | ⟨1, _⟩ => exact ⟨Nat.zero_le _, by show (y 1).val < 0 + 8; omega⟩
      | ⟨2, _⟩ => exact ⟨Nat.zero_le _, by show (y 2).val < 0 + 128; omega⟩
    · refine ⟨_, List.mem_cons_self, ?_⟩
      refine (Rect.mem_set_unit (inb := inb_S2x8x128_S1x8x128_1_0_0)).2 fun (a : Fin 3) => ?_
      match a with
      | ⟨0, _⟩ => exact ⟨by show 1 ≤ (y 0).val; omega, by show (y 0).val < 1 + 1; omega⟩
      | ⟨1, _⟩ => exact ⟨Nat.zero_le _, by show (y 1).val < 0 + 8; omega⟩
      | ⟨2, _⟩ => exact ⟨Nat.zero_le _, by show (y 2).val < 0 + 128; omega⟩

/-- The one place of the 1×1 array holding the step count. -/
def here : S1x1.Idx
  | ⟨0, _⟩ => (⟨0, Nat.one_pos⟩ : Fin 1)
  | ⟨1, _⟩ => (⟨0, Nat.one_pos⟩ : Fin 1)

theorem eq_here (j : S1x1.Idx) : j = here := by
  funext (a : Fin 2)
  match a with
  | ⟨0, _⟩ => exact Subsingleton.elim (α := Fin 1) _ _
  | ⟨1, _⟩ => exact Subsingleton.elim (α := Fin 1) _ _

/-- Every point but the first: the scratch is as it was found. -/
theorem run_rest (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (g14 : BufTy.Contents (Elt F) arg14.view.ty) (hc : ¬ first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} g14)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).1) ∗ (∃ f, arg10.view.loc (c : Thread nD τ) ↦[arg10.view.set]{fullShare} arg10.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.1) ∗ (∃ f, arg11.view.loc (c : Thread nD τ) ↦[arg11.view.set]{fullShare} arg11.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.2.1) ∗ (∃ f, arg12.view.loc (c : Thread nD τ) ↦[arg12.view.set]{fullShare} arg12.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.2.2.1) ∗ (∃ f, arg13.view.loc (c : Thread nD τ) ↦[arg13.view.set]{fullShare} arg13.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14).2.2.2.2) ∗ (arg14.view.loc (c : Thread nD τ) ↦[arg14.view.set]{fullShare} g14)) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  simp only [cc0_adamw_int8_eq_skeleton]; unfold cc0_adamw_int8_skel
  rw [dif_neg hc]
  unfold owns pieces
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, H14, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexists _; iexact H9
  isplitl [H10]; · iexists _; iexact H10
  isplitl [H11]; · iexists _; iexact H11
  isplitl [H12]; · iexists _; iexact H12
  isplitl [H13]; · iexists _; iexact H13
  iexact H14

/-- The first point: whatever the scratch held, the pieces are those at the two planes the point stores into it. -/
theorem run_first (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (g14 : BufTy.Contents (Elt F) arg14.view.ty) (hc : first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} g14)
        ∗ (iprop(∃ X14 : BufTy.Contents (Elt F) arg14.view.ty, owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).1) ∗ (∃ f, arg10.view.loc (c : Thread nD τ) ↦[arg10.view.set]{fullShare} arg10.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.1) ∗ (∃ f, arg11.view.loc (c : Thread nD τ) ↦[arg11.view.set]{fullShare} arg11.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.2.1) ∗ (∃ f, arg12.view.loc (c : Thread nD τ) ↦[arg12.view.set]{fullShare} arg12.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.2.2.1) ∗ (∃ f, arg13.view.loc (c : Thread nD τ) ↦[arg13.view.set]{fullShare} arg13.view.writes (Elt F) f (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14).2.2.2.2) ∗ (arg14.view.loc (c : Thread nD τ) ↦[arg14.view.set]{fullShare} X14) ∗ ⌜X14 = harg14.unread (coef (x2 here))⌝) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  simp only [cc0_adamw_int8_eq_skeleton]; unfold cc0_adamw_int8_skel
  rw [dif_pos hc]
  unfold owns pieces
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, H14, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  iexists _
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  ipureintro
  refine (scratch_eq arg14 harg14 _ _).trans (congrArg (fun w => harg14.unread (coef w)) ?_)
  unfold run_first.sl.r
  exact (harg2.readAt_unread x2 _ _).trans (congrArg x2 (eq_here _))

/-- A buffer at the writes of a list of pieces, over anything, is a buffer at something. -/
theorem owns_of_writes (c : Dev nD) {sp : Space} {sh : Shape} {e : EltTy} (a : Memref sig .tc sp sh e) (L) :
    (iprop(∃ f, a.view.loc (c : Thread nD τ) ↦[a.view.set]{fullShare} a.view.writes (Elt F) f L) : sProp 𝕄)
      ⊢ iprop(∃ d, owns (c : Thread nD τ) a fullShare d) := by
  unfold owns
  iintro ⟨%f, H⟩
  iexists (a.view.read (Elt F) (a.view.writes (Elt F) f L)); iexists (a.view.writes (Elt F) f L); isplitr; · ipureintro; rfl
  iexact H

/-- Any point, with nothing said of what the outputs and the scratch hold. -/
theorem run_any (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ g14, arg14.view.loc (c : Thread nD τ) ↦[arg14.view.set]{fullShare} g14)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ g14, arg14.view.loc (c : Thread nD τ) ↦[arg14.view.set]{fullShare} g14)) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  iintro ⟨H2, H3, H4, H5, H6, H7, H8, H9, H10, H11, H12, H13, ⟨%g14, H14⟩, Hk⟩
  by_cases hc : first i
  · iapply (run_first c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14 hc E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨%X14, H2, H3, H4, H5, H6, H7, H8, H9, H10, H11, H12, H13, H14, -⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (owns_of_writes c arg9 _); iexact H9
    isplitl [H10]; · iapply (owns_of_writes c arg10 _); iexact H10
    isplitl [H11]; · iapply (owns_of_writes c arg11 _); iexact H11
    isplitl [H12]; · iapply (owns_of_writes c arg12 _); iexact H12
    isplitl [H13]; · iapply (owns_of_writes c arg13 _); iexact H13
    iexists _; iexact H14
  · iapply (run_rest c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 g14 hc E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H8, H9, H10, H11, H12, H13, H14⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (owns_of_writes c arg9 _); iexact H9
    isplitl [H10]; · iapply (owns_of_writes c arg10 _); iexact H10
    isplitl [H11]; · iapply (owns_of_writes c arg11 _); iexact H11
    isplitl [H12]; · iapply (owns_of_writes c arg12 _); iexact H12
    isplitl [H13]; · iapply (owns_of_writes c arg13 _); iexact H13
    iexists _; iexact H14

end Cert.KernelIdeal.Body

end
-- ==== Proof.KIFrame.lean ====
/- The frame of the kernel: from any memory it runs to the end, changes no argument array and leaves every semaphore
   counter at zero. The eleven clipped windows are stated on the part of their blocks inside the arrays; the five
   outputs are taken at whatever they hold. -/
module

public import proofs.«01_k».proof.Proof.KIBody
public import Idealize.ShloMosaic.Lib.Claim

@[expose] public section

set_option maxRecDepth 16384

noncomputable section

namespace Cert.KernelIdeal.FrameProof

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]
variable (m : (ℓ : Loc nD τ sig) → Buf (Elt F) ℓ) (ρ : Dev nD → PrngReg)

/-- The outputs' windows: nothing is said of what they hold. -/
def forgotten : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true

/-- The proof data: each input's staging buffer holds its block, filled out past the array's end by any words. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (Classical.arbitrary _) (iblk m c 1 t)
    | ⟨2, _⟩ => (cfg0.win 2).fill (cfg0.grid.coords t) (Classical.arbitrary _) (iblk m c 2 t)
    | ⟨3, _⟩ => (cfg0.win 3).fill (cfg0.grid.coords t) (Classical.arbitrary _) (iblk m c 3 t)
    | ⟨4, _⟩ => (cfg0.win 4).fill (cfg0.grid.coords t) (Classical.arbitrary _) (iblk m c 4 t)
    | ⟨5, _⟩ => (cfg0.win 5).fill (cfg0.grid.coords t) (Classical.arbitrary _) (iblk m c 5 t)
    | ⟨6, _⟩ => (cfg0.win 6).fill (cfg0.grid.coords t) (Classical.arbitrary _) (iblk m c 6 t)
    | ⟨7, _⟩ => Classical.arbitrary _
    | ⟨8, _⟩ => Classical.arbitrary _
    | ⟨9, _⟩ => Classical.arbitrary _
    | ⟨10, _⟩ => Classical.arbitrary _
    | ⟨11, _⟩ => Classical.arbitrary _
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = (cfg0.win 1).fill (cfg0.grid.coords t) d (iblk m c 1 t) := by
  unfold Dat.before; rw [if_pos (fetch0_1 t)]; rfl
theorem before_2 (c : Dev nD) (t : Fin cfg0.N) (d) : (dats m 0 c).before 2 t d = (cfg0.win 2).fill (cfg0.grid.coords t) d (iblk m c 2 t) := by
  unfold Dat.before; rw [if_pos (fetch0_2 t)]; rfl
theorem before_3 (c : Dev nD) (t : Fin cfg0.N) (d) : (dats m 0 c).before 3 t d = (cfg0.win 3).fill (cfg0.grid.coords t) d (iblk m c 3 t) := by
  unfold Dat.before; rw [if_pos (fetch0_3 t)]; rfl
theorem before_4 (c : Dev nD) (t : Fin cfg0.N) (d) : (dats m 0 c).before 4 t d = (cfg0.win 4).fill (cfg0.grid.coords t) d (iblk m c 4 t) := by
  unfold Dat.before; rw [if_pos (fetch0_4 t)]; rfl
theorem before_5 (c : Dev nD) (t : Fin cfg0.N) (d) : (dats m 0 c).before 5 t d = (cfg0.win 5).fill (cfg0.grid.coords t) d (iblk m c 5 t) := by
  unfold Dat.before; rw [if_pos (fetch0_5 t)]; rfl
theorem before_6 (c : Dev nD) (t : Fin cfg0.N) (d) : (dats m 0 c).before 6 t d = (cfg0.win 6).fill (cfg0.grid.coords t) d (iblk m c 6 t) := by
  unfold Dat.before; rw [if_pos (fetch0_6 t)]; rfl

/-- The body's run at a point of the grid, whichever: the inputs are left alone and the scratch and the outputs hold
    something. -/
theorem body_obligation (c : Dev nD) :
    BodyObligationLoose (dats (F := F) m 0 c) (defs₀ (F := F)) Variants.none () Set.univ forgotten := fun t => by
  rw [bigSep_W0, bigSep_W0, show defs₀ (F := F) .tc cfg0.body (cfg0.bodyArgs t (cfg0.slots t)) = bodyAt0 t from by
    unfold defs₀; rw [Defs.onTc_tc]]
  simp only [forgotten]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%g14, H14⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0, before_1 m c t d1, before_2 m c t d2, before_3 m c t d3, before_4 m c t d4, before_5 m c t d5, before_6 m c t d6]
  unfold bodyAt0
  iapply (run_any (F := F) c (cfg0.grid.coords t) _ _ _ _ _ _ _ _ _ _ _ _ _ _ _ _ _ _ _ _ _ _ _ _ _ _ (iblk m c 0 t) ((cfg0.win 1).fill (cfg0.grid.coords t) d1 (iblk m c 1 t)) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H14]; · iexists g14; rw [show (Memref.whole cc0_scratch0 : Memref sig .tc _ _ _).view.set = Finset.univ from View.set_whole _]; iexact H14
  iintro ⟨H0, H1, H2, H3, H4, H5, H6, H7, H8, H9, H10, H11, ⟨%e14, H14⟩⟩
  isplitl [H14 Hr]
  · isplitl [H14]; · iexists e14; rw [← show (Memref.whole cc0_scratch0 : Memref sig .tc _ _ _).view.set = Finset.univ from View.set_whole _]; iexact H14
    iexact Hr
  isplitl [Ho]; · iexact Ho
  isplitl [H0]; · iexact H0
  isplitl [H1]
  · iexists d1
    rw [show (cfg0.win 1).cut (cfg0.grid.coords t) ((dats m 0 c).after 1 t) = iblk m c 1 t from (cfg0.win 1).cut_fill _ _ _]
    iexact H1
  isplitl [H2]
  · iexists d2
    rw [show (cfg0.win 2).cut (cfg0.grid.coords t) ((dats m 0 c).after 2 t) = iblk m c 2 t from (cfg0.win 2).cut_fill _ _ _]
    iexact H2
  isplitl [H3]
  · iexists d3
    rw [show (cfg0.win 3).cut (cfg0.grid.coords t) ((dats m 0 c).after 3 t) = iblk m c 3 t from (cfg0.win 3).cut_fill _ _ _]
    iexact H3
  isplitl [H4]
  · iexists d4
    rw [show (cfg0.win 4).cut (cfg0.grid.coords t) ((dats m 0 c).after 4 t) = iblk m c 4 t from (cfg0.win 4).cut_fill _ _ _]
    iexact H4
  isplitl [H5]
  · iexists d5
    rw [show (cfg0.win 5).cut (cfg0.grid.coords t) ((dats m 0 c).after 5 t) = iblk m c 5 t from (cfg0.win 5).cut_fill _ _ _]
    iexact H5
  isplitl [H6]
  · iexists d6
    rw [show (cfg0.win 6).cut (cfg0.grid.coords t) ((dats m 0 c).after 6 t) = iblk m c 6 t from (cfg0.win 6).cut_fill _ _ _]
    iexact H6
  isplitl [H7]
  · iexact H7
  isplitl [H8]
  · iexact H8
  isplitl [H9]
  · iexact H9
  isplitl [H10]
  · iexact H10
  · iexact H11

set_option backward.isDefEq.respectTransparency.types false in
/-- The launch: it runs to the end, with every input array as it was found and every semaphore counter at zero. -/
theorem run_main : θ_run defs (onTc (τ := τ) (main (F := F))) (s₀ m ρ)
    (fun r => RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := body_obligation m) (hshare := fun c => (dats m 0 c).share_full fun _ => rfl)
    (howed := fun _ _ => rfl) (V := V m) (hmain := hmain m Variants.none) (hA := fun _ _ => rfl) (hΦ := fun _ _ => rfl)

/-- The frame claim: no argument array changes and every semaphore counter ends at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => ⟨
      (RDat.FramePost.arr_in h.1 c 1 rfl).trans (V_main_arg0 m c),
      (RDat.FramePost.arr_in h.1 c 2 rfl).trans (V_main_arg1 m c),
      (RDat.FramePost.arr_in h.1 c 3 rfl).trans (V_main_arg2 m c),
      (RDat.FramePost.arr_in h.1 c 4 rfl).trans (V_main_arg3 m c),
      (RDat.FramePost.arr_in h.1 c 5 rfl).trans (V_main_arg4 m c),
      (RDat.FramePost.arr_in h.1 c 6 rfl).trans (V_main_arg5 m c),
      ((h.1 c).2 main_arg6 (Pipeline.mem_restRefs_of main_arg6 (by decide) (by decide))).trans (V_main_arg6 m c)⟩, h.2⟩) (run_main m ρ)

end Cert.KernelIdeal.FrameProof

end
-- ==== Proof.RIValue.lean ====
/- What the reference leaves in its five result arrays, as its own operations applied to the argument arrays. -/
module

public import proofs.«01_k».proof.Proof.Gen.ReferenceIdeal.Value
public import Idealize.ShloMosaic.Lib.Claim
public import Idealize.ShloMosaic.Lib.Pipeline.ValueKit
public import Idealize.ShloMosaic.Lib.Pipeline.ReadBack

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- The step count as the reference reads it. -/
def word (c : Dev nD) : Elt F .i32 := (iblk m c 0 t0_0 : Vec F S1x1 .i32) (Shape.Idx.first (by decide))

/-- The second moment's codes, from the second moment. -/
def vcodes (v : FVec F S11904x8192 .f32) : IVec S11904x8192 8 := k0_pay2 (k0_pay13 v) (k0_pay14 v) (k0_pay15 v)

/-- The second moment's scales, from the second moment. -/
def vscale (v : FVec F S11904x8192 .f32) : FVec F S93x8192 .f32 := k0_pay1 (k0_pay14 v) (k0_pay15 v)

/-- The update array at the end. -/
theorem final_7 (c : Dev nD) : (dats m 0 c).arrAt 7 cfg0.N
    = k0_pay9 (k0_pay5 (iblk m c 2 t0_0) (iblk m c 5 t0_0) (iblk m c 6 t0_0)) (k0_pay7 (iblk m c 2 t0_0) (iblk m c 3 t0_0) (iblk m c 4 t0_0) (word m c)) (k0_pay8 (word m c)) (iblk m c 1 t0_0) := by
  refine (dats m 0 c).arrAt_eq_of_after_last 7 t0_0 (by decide +kernel) _ fun j => ?_
  blk_simp; rw [after0_7]; unfold outsAt0; dsimp only; frame_out
  simp only [read_unread_whole]
  try rfl

/-- The code array of the first moment at the end. -/
theorem final_8 (c : Dev nD) : (dats m 0 c).arrAt 8 cfg0.N
    = k0_pay12 (k0_pay4 (iblk m c 2 t0_0) (iblk m c 3 t0_0) (iblk m c 4 t0_0)) := by
  refine (dats m 0 c).arrAt_eq_of_after_last 8 t0_0 (by decide +kernel) _ fun j => ?_
  blk_simp; rw [after0_8]; frame_out
  simp only [read_unread_whole]
  try rfl

/-- The scale array of the first moment at the end. -/
theorem final_9 (c : Dev nD) : (dats m 0 c).arrAt 9 cfg0.N
    = k0_pay11 (k0_pay4 (iblk m c 2 t0_0) (iblk m c 3 t0_0) (iblk m c 4 t0_0)) := by
  refine (dats m 0 c).arrAt_eq_of_after_last 9 t0_0 (by decide +kernel) _ fun j => ?_
  blk_simp; rw [after0_9]; frame_out
  simp only [read_unread_whole]
  try rfl

/-- The code array of the second moment at the end. -/
theorem final_10 (c : Dev nD) : (dats m 0 c).arrAt 10 cfg0.N
    = vcodes (k0_pay5 (iblk m c 2 t0_0) (iblk m c 5 t0_0) (iblk m c 6 t0_0)) := by
  refine (dats m 0 c).arrAt_eq_of_after_last 10 t0_0 (by decide +kernel) _ fun j => ?_
  blk_simp; rw [after0_10]; frame_out
  simp only [read_unread_whole]
  try rfl

/-- The scale array of the second moment at the end. -/
theorem final_11 (c : Dev nD) : (dats m 0 c).arrAt 11 cfg0.N
    = vscale (k0_pay5 (iblk m c 2 t0_0) (iblk m c 5 t0_0) (iblk m c 6 t0_0)) := by
  refine (dats m 0 c).arrAt_eq_of_after_last 11 t0_0 (by decide +kernel) _ fun j => ?_
  blk_simp; rw [after0_11]; frame_out
  simp only [read_unread_whole]
  try rfl

/-- Every input window's one block starts at the origin. -/
theorem origin : (win0_1.index t0_0 0 = 0 ∧ win0_1.index t0_0 1 = 0)
    ∧ (win0_2.index t0_0 0 = 0 ∧ win0_2.index t0_0 1 = 0)
    ∧ (win0_3.index t0_0 0 = 0 ∧ win0_3.index t0_0 1 = 0)
    ∧ (win0_4.index t0_0 0 = 0 ∧ win0_4.index t0_0 1 = 0)
    ∧ (win0_5.index t0_0 0 = 0 ∧ win0_5.index t0_0 1 = 0)
    ∧ (win0_6.index t0_0 0 = 0 ∧ win0_6.index t0_0 1 = 0) := by decide +kernel

/-- Window 1's one block is argument 0. -/
theorem iblk_1 (c : Dev nD) : iblk m c 1 t0_0 = m ((c : Thread nD τ).loc main_arg0) := by
  blk_ext! [iblk, V, origin]

/-- Window 2's one block is argument 1. -/
theorem iblk_2 (c : Dev nD) : iblk m c 2 t0_0 = m ((c : Thread nD τ).loc main_arg1) := by
  blk_ext! [iblk, V, origin]

/-- Window 3's one block is argument 2. -/
theorem iblk_3 (c : Dev nD) : iblk m c 3 t0_0 = m ((c : Thread nD τ).loc main_arg2) := by
  blk_ext! [iblk, V, origin]

/-- Window 4's one block is argument 3. -/
theorem iblk_4 (c : Dev nD) : iblk m c 4 t0_0 = m ((c : Thread nD τ).loc main_arg3) := by
  blk_ext! [iblk, V, origin]

/-- Window 5's one block is argument 4. -/
theorem iblk_5 (c : Dev nD) : iblk m c 5 t0_0 = m ((c : Thread nD τ).loc main_arg4) := by
  blk_ext! [iblk, V, origin]

/-- Window 6's one block is argument 5. -/
theorem iblk_6 (c : Dev nD) : iblk m c 6 t0_0 = m ((c : Thread nD τ).loc main_arg5) := by
  blk_ext! [iblk, V, origin]

/-- The step count read is argument 6. -/
theorem word_eq (c : Dev nD) : word m c = m ((c : Thread nD τ).loc main_arg6) (fun a => a.elim0) := by
  unfold word iblk
  rw [View.read_apply]
  entry_read
  pointwise
  exact congrArg (m ((c : Thread nD τ).loc main_arg6)) (funext fun a => a.elim0)

end Cert.ReferenceIdeal.Whole

end
-- ==== Proof.KITiles.lean ====
/- Arrays cut into 128×128 tiles and 1×128 rows: what a tile of an array is, the array put together from a function of
   its tiles, and when a list of stored pieces is the tiles of one such array. -/
module

public import proofs.«01_k».proof.Proof.Gen.KernelIdeal.Loops
public import proofs.«01_k».proof.Proof.Gen.KernelIdeal.Frame
public import Idealize.ShloMosaic.Lib.WholeRead
public import Idealize.ShloMosaic.Lib.Writes

@[expose] public section

noncomputable section

namespace Cert.KernelIdeal.Tiles

open Cert.KernelIdeal Cert.KernelIdeal.Gen
open Idealize.ShloMosaic Idealize.ShloMosaic.TcCoe

/-- The index `(a, b)` of a matrix. -/
def ix2 {n m : ℕ} {a b : ℕ} (ha : a < n) (hb : b < m) : (⟨2, ![n, m]⟩ : Shape).Idx
  | ⟨0, _⟩ => ⟨a, ha⟩
  | ⟨1, _⟩ => ⟨b, hb⟩

theorem ix2_eq {n m : ℕ} {a b : ℕ} (ha : a < n) (hb : b < m) (j : (⟨2, ![n, m]⟩ : Shape).Idx) (h0 : (j 0).val = a) (h1 : (j 1).val = b) :
    ix2 ha hb = j := by
  funext i
  match i with
  | ⟨0, _⟩ => exact Fin.ext h0.symm
  | ⟨1, _⟩ => exact Fin.ext h1.symm

/-- The matrix as a function of two naturals, arbitrary outside it. -/
def ext {n m : ℕ} {α : Type} [Nonempty α] (x : (⟨2, ![n, m]⟩ : Shape).Idx → α) (a b : ℕ) : α :=
  if h : a < n ∧ b < m then x (ix2 h.1 h.2) else Classical.arbitrary α

theorem ext_eq {n m : ℕ} {α : Type} [Nonempty α] (x : (⟨2, ![n, m]⟩ : Shape).Idx → α) (a b : ℕ) (j : (⟨2, ![n, m]⟩ : Shape).Idx)
    (h0 : (j 0).val = a) (h1 : (j 1).val = b) : ext x a b = x j := by
  have hh : a < n ∧ b < m := ⟨h0 ▸ (j 0).isLt, h1 ▸ (j 1).isLt⟩
  unfold ext
  rw [dif_pos hh, ix2_eq hh.1 hh.2 j h0 h1]

/-- The 128×128 tile in tile row `I` and tile column `J`. -/
def tile {α : Type} (f : ℕ → ℕ → α) (I J : ℕ) : S128x128.Idx → α := fun p => f (128 * I + (p 0).val) (128 * J + (p 1).val)

/-- The 1×128 piece of row `I` in tile column `J`. -/
def stile {α : Type} (f : ℕ → ℕ → α) (I J : ℕ) : S1x128.Idx → α := fun p => f (I + (p 0).val) (128 * J + (p 1).val)

/-- The array whose tiles are `T`. -/
def glue {α : Type} (T : ℕ → ℕ → S128x128.Idx → α) (a b : ℕ) : α :=
  T (a / 128) (b / 128) (ix2 (Nat.mod_lt a (by decide)) (Nat.mod_lt b (by decide)))

/-- The array whose 1×128 pieces are `T`. -/
def sglue {α : Type} (T : ℕ → ℕ → S1x128.Idx → α) (a b : ℕ) : α :=
  T a (b / 128) (ix2 (Nat.one_pos) (Nat.mod_lt b (by decide)))

theorem glue_eq {α : Type} (T : ℕ → ℕ → S128x128.Idx → α) (I J : ℕ) (p : S128x128.Idx) {a b : ℕ} (ha : a = 128 * I + (p 0).val)
    (hb : b = 128 * J + (p 1).val) : glue T a b = T I J p := by
  have h0 : (p 0).val < 128 := (p 0).isLt
  have h1 : (p 1).val < 128 := (p 1).isLt
  unfold glue
  rw [ix2_eq _ _ p (by omega) (by omega), show a / 128 = I by omega, show b / 128 = J by omega]

theorem sglue_eq {α : Type} (T : ℕ → ℕ → S1x128.Idx → α) (I J : ℕ) (p : S1x128.Idx) {a b : ℕ} (ha : a = I)
    (hb : b = 128 * J + (p 1).val) : sglue T a b = T I J p := by
  have h0 : (p 0).val < 1 := (p 0).isLt
  have h1 : (p 1).val < 128 := (p 1).isLt
  unfold sglue
  rw [ix2_eq _ _ p (by omega) (by omega), ha, show b / 128 = J by omega]

/-- The tile at offset `128·(I, J)` of a matrix read through a whole memref that holds it. -/
theorem readAt_tile {F : FTy → Type} [FloatOps F] {sp : Space} {n m : ℕ} {e : EltTy} [Nonempty (Elt F e)] {a : Memref sig .tc sp ⟨2, ![n, m]⟩ e} (h : a.IsWhole)
    (x : Vec F ⟨2, ![n, m]⟩ e) {off : Fin 2 → ℕ} {I J : ℕ} (ho : off = ![128 * I, 128 * J]) (inb : ∀ i, off i + S128x128.size i ≤ (⟨2, ![n, m]⟩ : Shape).size i) :
    View.readAt (Elt F) a.view (Rect.unit (s := ⟨2, ![n, m]⟩) off S128x128.size inb).toLoadRect (h.unread x) = tile (ext x) I J := by
  subst ho
  funext p
  exact (h.readAt_unread x _ p).trans (ext_eq x _ _ _ (show 128 * I + 1 * _ = _ by rw [Nat.one_mul]) (show 128 * J + 1 * _ = _ by rw [Nat.one_mul])).symm

/-- The piece at offset `(I, 128·J)` of a matrix read through a whole memref that holds it. -/
theorem readAt_stile {F : FTy → Type} [FloatOps F] {sp : Space} {n m : ℕ} {e : EltTy} [Nonempty (Elt F e)] {a : Memref sig .tc sp ⟨2, ![n, m]⟩ e} (h : a.IsWhole)
    (x : Vec F ⟨2, ![n, m]⟩ e) {off : Fin 2 → ℕ} {I J : ℕ} (ho : off = ![I, 128 * J]) (inb : ∀ i, off i + S1x128.size i ≤ (⟨2, ![n, m]⟩ : Shape).size i) :
    View.readAt (Elt F) a.view (Rect.unit (s := ⟨2, ![n, m]⟩) off S1x128.size inb).toLoadRect (h.unread x) = stile (ext x) I J := by
  subst ho
  funext p
  exact (h.readAt_unread x _ p).trans (ext_eq x _ _ _ (show I + 1 * _ = _ by rw [Nat.one_mul]) (show 128 * J + 1 * _ = _ by rw [Nat.one_mul])).symm

section Pieces

variable {F : FTy → Type} [FloatOps F] {n m : ℕ} {e : EltTy}

/-- The pieces hold what the array `G` holds at their places, and they cover the places of `D`. -/
def Agree (G : ℕ → ℕ → Elt F e) (D : ℕ → ℕ → Prop) (L : List (View.Piece (Elt F) ⟨2, ![n, m]⟩ e)) : Prop :=
  (∀ p ∈ L, ∀ x, p.2 x = G (p.1.emb x 0).val (p.1.emb x 1).val) ∧
    ∀ y : (⟨2, ![n, m]⟩ : Shape).Idx, D (y 0).val (y 1).val → ∃ p ∈ L, y ∈ p.1.set

theorem Agree.nil (G : ℕ → ℕ → Elt F e) {D : ℕ → ℕ → Prop} (hD : ∀ a b, ¬ D a b) : Agree (n := n) (m := m) G D [] :=
  ⟨by simp, fun y hy => absurd hy (hD _ _)⟩

/-- No pieces cover none of the tile rows. -/
theorem Agree.none {T : ℕ → ℕ → S128x128.Idx → Elt F e} (J : ℕ) :
    Agree (n := n) (m := m) (glue T) (fun a b => a < 128 * 0 ∧ b / 128 = J) [] :=
  Agree.nil _ fun a b h => by have := h.1; omega

/-- No pieces cover none of the rows. -/
theorem Agree.snone {T : ℕ → ℕ → S1x128.Idx → Elt F e} (J : ℕ) :
    Agree (n := n) (m := m) (sglue T) (fun a b => a < 0 ∧ b / 128 = J) [] :=
  Agree.nil _ fun a b h => by have := h.1; omega

/-- One more tile in front covers one more tile row of the strip. -/
theorem Agree.cons {T : ℕ → ℕ → S128x128.Idx → Elt F e} {L : List (View.Piece (Elt F) ⟨2, ![n, m]⟩ e)} {I J : ℕ}
    (h : Agree (glue T) (fun a b => a < 128 * I ∧ b / 128 = J) L) {off : Fin 2 → ℕ} (ho : off = ![128 * I, 128 * J])
    (inb : ∀ i, off i + S128x128.size i ≤ (⟨2, ![n, m]⟩ : Shape).size i) {w : S128x128.Idx → Elt F e} (hw : w = T I J) :
    Agree (glue T) (fun a b => a < 128 * (I + 1) ∧ b / 128 = J) ((⟨Rect.unit (s := ⟨2, ![n, m]⟩) off S128x128.size inb, w⟩ : View.Piece (Elt F) ⟨2, ![n, m]⟩ e) :: L) := by
  subst ho hw
  refine ⟨fun p hp x => ?_, fun y hy => ?_⟩
  · rcases List.mem_cons.1 hp with rfl | hp
    · exact (glue_eq T I J x (show 128 * I + 1 * _ = _ by rw [Nat.one_mul]) (show 128 * J + 1 * _ = _ by rw [Nat.one_mul])).symm
    · exact h.1 p hp x
  · by_cases hlt : (y 0).val < 128 * I
    · obtain ⟨p, hp, hs⟩ := h.2 y ⟨hlt, hy.2⟩
      exact ⟨p, List.mem_cons_of_mem _ hp, hs⟩
    · refine ⟨_, List.mem_cons_self, ?_⟩
      refine (Rect.mem_set_unit (inb := inb)).2 fun (i : Fin 2) => ?_
      match i with
      | ⟨0, _⟩ => exact ⟨by show 128 * I ≤ (y 0).val; omega, by show (y 0).val < 128 * I + 128; have := hy.1; omega⟩
      | ⟨1, _⟩ => exact ⟨by show 128 * J ≤ (y 1).val; have := hy.2; omega, by show (y 1).val < 128 * J + 128; have := hy.2; omega⟩

/-- One more 1×128 piece in front covers one more row of the strip. -/
theorem Agree.scons {T : ℕ → ℕ → S1x128.Idx → Elt F e} {L : List (View.Piece (Elt F) ⟨2, ![n, m]⟩ e)} {I J : ℕ}
    (h : Agree (sglue T) (fun a b => a < I ∧ b / 128 = J) L) {off : Fin 2 → ℕ} (ho : off = ![I, 128 * J])
    (inb : ∀ i, off i + S1x128.size i ≤ (⟨2, ![n, m]⟩ : Shape).size i) {w : S1x128.Idx → Elt F e} (hw : w = T I J) :
    Agree (sglue T) (fun a b => a < I + 1 ∧ b / 128 = J) ((⟨Rect.unit (s := ⟨2, ![n, m]⟩) off S1x128.size inb, w⟩ : View.Piece (Elt F) ⟨2, ![n, m]⟩ e) :: L) := by
  subst ho hw
  refine ⟨fun p hp x => ?_, fun y hy => ?_⟩
  · rcases List.mem_cons.1 hp with rfl | hp
    · exact (sglue_eq T I J x (show I + 1 * (x 0).val = _ by have : (x 0).val < 1 := (x 0).isLt; omega) (show 128 * J + 1 * _ = _ by rw [Nat.one_mul])).symm
    · exact h.1 p hp x
  · by_cases hlt : (y 0).val < I
    · obtain ⟨p, hp, hs⟩ := h.2 y ⟨hlt, hy.2⟩
      exact ⟨p, List.mem_cons_of_mem _ hp, hs⟩
    · refine ⟨_, List.mem_cons_self, ?_⟩
      refine (Rect.mem_set_unit (inb := inb)).2 fun (i : Fin 2) => ?_
      match i with
      | ⟨0, _⟩ => exact ⟨by show I ≤ (y 0).val; omega, by show (y 0).val < I + 1; have := hy.1; omega⟩
      | ⟨1, _⟩ => exact ⟨by show 128 * J ≤ (y 1).val; have := hy.2; omega, by show (y 1).val < 128 * J + 128; have := hy.2; omega⟩

/-- A strip's pieces in front of those of the strips before it. -/
theorem Agree.append {G : ℕ → ℕ → Elt F e} {N J : ℕ} {L L' : List (View.Piece (Elt F) ⟨2, ![n, m]⟩ e)}
    (h : Agree G (fun a b => a < N ∧ b / 128 = J) L) (h' : Agree G (fun a b => a < N ∧ b / 128 < J) L') :
    Agree G (fun a b => a < N ∧ b / 128 < J + 1) (L ++ L') := by
  refine ⟨fun p hp => (List.mem_append.1 hp).elim (h.1 p) (h'.1 p), fun y hy => ?_⟩
  by_cases hlt : (y 1).val / 128 < J
  · obtain ⟨p, hp, hs⟩ := h'.2 y ⟨hy.1, hlt⟩
    exact ⟨p, List.mem_append_right _ hp, hs⟩
  · obtain ⟨p, hp, hs⟩ := h.2 y ⟨hy.1, by have := hy.2; omega⟩
    exact ⟨p, List.mem_append_left _ hp, hs⟩

/-- Pieces that cover the whole matrix leave it holding the array. -/
theorem Agree.read {G : ℕ → ℕ → Elt F e} {N J : ℕ} {L : List (View.Piece (Elt F) ⟨2, ![n, m]⟩ e)}
    (h : Agree G (fun a b => a < N ∧ b / 128 < J) L) (hn : n = N) (hm : m = 128 * J) {sp : Space} (a : Memref sig .tc sp ⟨2, ![n, m]⟩ e)
    (f : BufTy.Contents (Elt F) a.view.ty) :
    a.view.read (Elt F) (a.view.writes (Elt F) f L) = fun y => G (y 0).val (y 1).val := by
  funext y
  refine View.read_writes_apply_of_pieces a.view f (fun y => G (y 0).val (y 1).val) L h.1 y (h.2 y ⟨?_, ?_⟩)
  · exact hn ▸ (y 0).isLt
  · have : (y 1).val < m := (y 1).isLt
    omega

end Pieces

section Payloads

variable {F : FTy → Type} [FloatOps F] [Named F]

/-- The first moment of a tile, times ten. -/
abbrev mT (g : ℕ → ℕ → Elt F .bf16) (mc : ℕ → ℕ → Elt F .i8) (ms : ℕ → ℕ → Elt F .f32) (I J : ℕ) : S128x128.Idx → Elt F .f32 :=
  k0_pay10 (F := F) (stile ms I J) (tile g I J) (tile mc I J)

/-- The second moment of a tile, times a thousand. -/
abbrev vT (g : ℕ → ℕ → Elt F .bf16) (vc : ℕ → ℕ → Elt F .i8) (vs : ℕ → ℕ → Elt F .f32) (I J : ℕ) : S128x128.Idx → Elt F .f32 :=
  k0_pay11 (F := F) (stile vs I J) (tile g I J) (tile vc I J)

/-- The first moment's new codes. -/
def mCode (g : ℕ → ℕ → Elt F .bf16) (mc : ℕ → ℕ → Elt F .i8) (ms : ℕ → ℕ → Elt F .f32) (I J : ℕ) : S128x128.Idx → Elt F .i8 :=
  k0_pay15 (F := F) (mT g mc ms I J)

/-- The first moment's new scales. -/
def mScale (g : ℕ → ℕ → Elt F .bf16) (mc : ℕ → ℕ → Elt F .i8) (ms : ℕ → ℕ → Elt F .f32) (I J : ℕ) : S1x128.Idx → Elt F .f32 :=
  k0_pay14 (F := F) (mT g mc ms I J)

/-- The second moment's new codes. -/
def vCode (g : ℕ → ℕ → Elt F .bf16) (vc : ℕ → ℕ → Elt F .i8) (vs : ℕ → ℕ → Elt F .f32) (I J : ℕ) : S128x128.Idx → Elt F .i8 :=
  k0_pay17 (F := F) (vT g vc vs I J) (k0_pay16 (F := F) (vT g vc vs I J)) (Scalar.ofBits .f32 0x447A0000#32)

/-- The second moment's new scales. -/
def vScale (g : ℕ → ℕ → Elt F .bf16) (vc : ℕ → ℕ → Elt F .i8) (vs : ℕ → ℕ → Elt F .f32) (I J : ℕ) : S1x128.Idx → Elt F .f32 :=
  k0_pay16 (F := F) (vT g vc vs I J)

/-- The update of a tile, at the two coefficients `c0`, `c1`. -/
def deltaT (c0 c1 : Vec F S1x1x128 .f32) (p : ℕ → ℕ → Elt F .f32) (g : ℕ → ℕ → Elt F .bf16) (mc : ℕ → ℕ → Elt F .i8) (ms : ℕ → ℕ → Elt F .f32) (vc : ℕ → ℕ → Elt F .i8)
    (vs : ℕ → ℕ → Elt F .f32) (I J : ℕ) : S128x128.Idx → Elt F .f32 :=
  k0_pay13 (F := F) (k0_pay12 (F := F) c0 c1 (stile ms I J) (stile vs I J) (tile g I J) (tile mc I J) (tile vc I J)) (tile p I J)

end Payloads

end Cert.KernelIdeal.Tiles
-- ==== Proof.KITrip.lean ====
/- Every trip of the kernel's loop stores the tiles of one column strip, whatever way the program text cuts their
   formulas into parts; the four trips' pieces together are the five outputs' blocks. -/
module

public import proofs.«01_k».proof.Proof.KITiles

@[expose] public section

set_option maxRecDepth 16384

noncomputable section

namespace Cert.KernelIdeal.Tiles

open Cert.KernelIdeal Cert.KernelIdeal.Gen
open Idealize.ShloMosaic Idealize.ShloMosaic.TcCoe

variable {F : FTy → Type} [FloatOps F] [Named F] [∀ e, Nonempty (Elt F e)]

section Loads

variable {a3 : Memref sig .tc .vmem S1024x512 .f32} {h3 : a3.IsWhole} {a4 : Memref sig .tc .vmem S1024x512 .bf16} {h4 : a4.IsWhole} {a5 : Memref sig .tc .vmem S1024x512 .i8} {h5 : a5.IsWhole} {a6 : Memref sig .tc .vmem S8x512 .f32} {h6 : a6.IsWhole} {a7 : Memref sig .tc .vmem S1024x512 .i8} {h7 : a7.IsWhole} {a8 : Memref sig .tc .vmem S8x512 .f32} {h8 : a8.IsWhole}
  {x3 : Vec F S1024x512 .f32} {x4 : Vec F S1024x512 .bf16} {x5 : Vec F S1024x512 .i8} {x6 : Vec F S8x512 .f32} {x7 : Vec F S1024x512 .i8} {x8 : Vec F S8x512 .f32}
  {os ot : Fin 2 → ℕ} {I J : ℕ} (hs : os = ![I, 128 * J]) (ht : ot = ![128 * I, 128 * J])
  (is : ∀ i, os i + S1x128.size i ≤ S8x512.size i) (it : ∀ i, ot i + S128x128.size i ≤ S1024x512.size i)

include hs ht

/-- The first moment codes of the loaded tiles. -/
theorem mCode_loads :
    k0_pay15 (F := F) (k0_pay10 (F := F) (View.readAt (Elt F) a6.view (Rect.unit (s := S8x512) os S1x128.size is).toLoadRect (h6.unread x6)) (View.readAt (Elt F) a4.view (Rect.unit (s := S1024x512) ot S128x128.size it).toLoadRect (h4.unread x4)) (View.readAt (Elt F) a5.view (Rect.unit (s := S1024x512) ot S128x128.size it).toLoadRect (h5.unread x5)))
      = mCode (ext x4) (ext x5) (ext x6) I J := by
  rw [readAt_stile h6 x6 hs is, readAt_tile h4 x4 ht it, readAt_tile h5 x5 ht it]; rfl

/-- The first moment scales of the loaded tiles. -/
theorem mScale_loads :
    k0_pay14 (F := F) (k0_pay10 (F := F) (View.readAt (Elt F) a6.view (Rect.unit (s := S8x512) os S1x128.size is).toLoadRect (h6.unread x6)) (View.readAt (Elt F) a4.view (Rect.unit (s := S1024x512) ot S128x128.size it).toLoadRect (h4.unread x4)) (View.readAt (Elt F) a5.view (Rect.unit (s := S1024x512) ot S128x128.size it).toLoadRect (h5.unread x5)))
      = mScale (ext x4) (ext x5) (ext x6) I J := by
  rw [readAt_stile h6 x6 hs is, readAt_tile h4 x4 ht it, readAt_tile h5 x5 ht it]; rfl

/-- The second moment codes of the loaded tiles. -/
theorem vCode_loads :
    k0_pay17 (F := F) (k0_pay11 (F := F) (View.readAt (Elt F) a8.view (Rect.unit (s := S8x512) os S1x128.size is).toLoadRect (h8.unread x8)) (View.readAt (Elt F) a4.view (Rect.unit (s := S1024x512) ot S128x128.size it).toLoadRect (h4.unread x4)) (View.readAt (Elt F) a7.view (Rect.unit (s := S1024x512) ot S128x128.size it).toLoadRect (h7.unread x7))) (k0_pay16 (F := F) (k0_pay11 (F := F) (View.readAt (Elt F) a8.view (Rect.unit (s := S8x512) os S1x128.size is).toLoadRect (h8.unread x8)) (View.readAt (Elt F) a4.view (Rect.unit (s := S1024x512) ot S128x128.size it).toLoadRect (h4.unread x4)) (View.readAt (Elt F) a7.view (Rect.unit (s := S1024x512) ot S128x128.size it).toLoadRect (h7.unread x7)))) (Scalar.ofBits .f32 0x447A0000#32)
      = vCode (ext x4) (ext x7) (ext x8) I J := by
  rw [readAt_stile h8 x8 hs is, readAt_tile h4 x4 ht it, readAt_tile h7 x7 ht it]; rfl

/-- The second moment scales of the loaded tiles. -/
theorem vScale_loads :
    k0_pay16 (F := F) (k0_pay11 (F := F) (View.readAt (Elt F) a8.view (Rect.unit (s := S8x512) os S1x128.size is).toLoadRect (h8.unread x8)) (View.readAt (Elt F) a4.view (Rect.unit (s := S1024x512) ot S128x128.size it).toLoadRect (h4.unread x4)) (View.readAt (Elt F) a7.view (Rect.unit (s := S1024x512) ot S128x128.size it).toLoadRect (h7.unread x7)))
      = vScale (ext x4) (ext x7) (ext x8) I J := by
  rw [readAt_stile h8 x8 hs is, readAt_tile h4 x4 ht it, readAt_tile h7 x7 ht it]; rfl

/-- The update of the loaded tiles. -/
theorem delta_loads :
    ∀ c0 c1 : Vec F S1x1x128 .f32, k0_pay13 (F := F) (k0_pay12 (F := F) c0 c1 (View.readAt (Elt F) a6.view (Rect.unit (s := S8x512) os S1x128.size is).toLoadRect (h6.unread x6)) (View.readAt (Elt F) a8.view (Rect.unit (s := S8x512) os S1x128.size is).toLoadRect (h8.unread x8)) (View.readAt (Elt F) a4.view (Rect.unit (s := S1024x512) ot S128x128.size it).toLoadRect (h4.unread x4)) (View.readAt (Elt F) a5.view (Rect.unit (s := S1024x512) ot S128x128.size it).toLoadRect (h5.unread x5)) (View.readAt (Elt F) a7.view (Rect.unit (s := S1024x512) ot S128x128.size it).toLoadRect (h7.unread x7))) (View.readAt (Elt F) a3.view (Rect.unit (s := S1024x512) ot S128x128.size it).toLoadRect (h3.unread x3))
      = deltaT c0 c1 (ext x3) (ext x4) (ext x5) (ext x6) (ext x7) (ext x8) I J := by
  intro c0 c1; rw [readAt_stile h6 x6 hs is, readAt_stile h8 x8 hs is, readAt_tile h4 x4 ht it, readAt_tile h5 x5 ht it, readAt_tile h7 x7 ht it, readAt_tile h3 x3 ht it]; rfl

end Loads

/-- One trip's pieces of the update are the tiles of the trip's strip. -/
theorem trip_delta (𝒱 : Variants) (c : Dev nD) (bd : Option 𝒱.V) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) (k : Fin k0_t1_loop.trips) :
    Agree (glue (deltaT (View.readAt (Elt F) arg14.view (Rect.unit (s := S2x8x128) ![0, 0, 0] S1x1x128.size inb_S2x8x128_S1x1x128_0_0_0).toLoadRect X14) (View.readAt (Elt F) arg14.view (Rect.unit (s := S2x8x128) ![1, 0, 0] S1x1x128.size inb_S2x8x128_S1x1x128_1_0_0).toLoadRect X14) (ext x3) (ext x4) (ext x5) (ext x6) (ext x7) (ext x8))) (fun a b => a < 1024 ∧ b / 128 = k.val) (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k).1 := by
  unfold tripL_k0_t1 trip_k0_t1
  dsimp only
  exact (Agree.cons (Agree.cons (Agree.cons (Agree.cons (Agree.cons (Agree.cons (Agree.cons (Agree.cons (Agree.none _) (k0_off2_eq k) _ (delta_loads (k0_off1_eq k) (k0_off2_eq k) _ _ _ _)) (k0_off4_eq k) _ (delta_loads (k0_off3_eq k) (k0_off4_eq k) _ _ _ _)) (k0_off6_eq k) _ (delta_loads (k0_off5_eq k) (k0_off6_eq k) _ _ _ _)) (k0_off8_eq k) _ (delta_loads (k0_off7_eq k) (k0_off8_eq k) _ _ _ _)) (k0_off10_eq k) _ (delta_loads (k0_off9_eq k) (k0_off10_eq k) _ _ _ _)) (k0_off12_eq k) _ (delta_loads (k0_off11_eq k) (k0_off12_eq k) _ _ _ _)) (k0_off14_eq k) _ (delta_loads (k0_off13_eq k) (k0_off14_eq k) _ _ _ _)) (k0_off16_eq k) _ (delta_loads (k0_off15_eq k) (k0_off16_eq k) _ _ _ _))

/-- One trip's pieces of the first moment's codes are the tiles of the trip's strip. -/
theorem trip_mCode (𝒱 : Variants) (c : Dev nD) (bd : Option 𝒱.V) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) (k : Fin k0_t1_loop.trips) :
    Agree (glue (mCode (ext x4) (ext x5) (ext x6))) (fun a b => a < 1024 ∧ b / 128 = k.val) (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k).2.1 := by
  unfold tripL_k0_t1 trip_k0_t1
  dsimp only
  exact (Agree.cons (Agree.cons (Agree.cons (Agree.cons (Agree.cons (Agree.cons (Agree.cons (Agree.cons (Agree.none _) (k0_off2_eq k) _ (mCode_loads (k0_off1_eq k) (k0_off2_eq k) _ _)) (k0_off4_eq k) _ (mCode_loads (k0_off3_eq k) (k0_off4_eq k) _ _)) (k0_off6_eq k) _ (mCode_loads (k0_off5_eq k) (k0_off6_eq k) _ _)) (k0_off8_eq k) _ (mCode_loads (k0_off7_eq k) (k0_off8_eq k) _ _)) (k0_off10_eq k) _ (mCode_loads (k0_off9_eq k) (k0_off10_eq k) _ _)) (k0_off12_eq k) _ (mCode_loads (k0_off11_eq k) (k0_off12_eq k) _ _)) (k0_off14_eq k) _ (mCode_loads (k0_off13_eq k) (k0_off14_eq k) _ _)) (k0_off16_eq k) _ (mCode_loads (k0_off15_eq k) (k0_off16_eq k) _ _))

/-- One trip's pieces of the first moment's scales are the tiles of the trip's strip. -/
theorem trip_mScale (𝒱 : Variants) (c : Dev nD) (bd : Option 𝒱.V) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) (k : Fin k0_t1_loop.trips) :
    Agree (sglue (mScale (ext x4) (ext x5) (ext x6))) (fun a b => a < 8 ∧ b / 128 = k.val) (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k).2.2.1 := by
  unfold tripL_k0_t1 trip_k0_t1
  dsimp only
  exact (Agree.scons (Agree.scons (Agree.scons (Agree.scons (Agree.scons (Agree.scons (Agree.scons (Agree.scons (Agree.snone _) (k0_off1_eq k) _ (mScale_loads (k0_off1_eq k) (k0_off2_eq k) _ _)) (k0_off3_eq k) _ (mScale_loads (k0_off3_eq k) (k0_off4_eq k) _ _)) (k0_off5_eq k) _ (mScale_loads (k0_off5_eq k) (k0_off6_eq k) _ _)) (k0_off7_eq k) _ (mScale_loads (k0_off7_eq k) (k0_off8_eq k) _ _)) (k0_off9_eq k) _ (mScale_loads (k0_off9_eq k) (k0_off10_eq k) _ _)) (k0_off11_eq k) _ (by unfold k0_pay66 k0_pay65 trip_k0_t1.sl.r_22 k0_pay64; exact mScale_loads (k0_off11_eq k) (k0_off12_eq k) _ _)) (k0_off13_eq k) _ (mScale_loads (k0_off13_eq k) (k0_off14_eq k) _ _)) (k0_off15_eq k) _ (mScale_loads (k0_off15_eq k) (k0_off16_eq k) _ _))

/-- One trip's pieces of the second moment's codes are the tiles of the trip's strip. -/
theorem trip_vCode (𝒱 : Variants) (c : Dev nD) (bd : Option 𝒱.V) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) (k : Fin k0_t1_loop.trips) :
    Agree (glue (vCode (ext x4) (ext x7) (ext x8))) (fun a b => a < 1024 ∧ b / 128 = k.val) (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k).2.2.2.1 := by
  unfold tripL_k0_t1 trip_k0_t1
  dsimp only
  exact (Agree.cons (Agree.cons (Agree.cons (Agree.cons (Agree.cons (Agree.cons (Agree.cons (Agree.cons (Agree.none _) (k0_off2_eq k) _ (vCode_loads (k0_off1_eq k) (k0_off2_eq k) _ _)) (k0_off4_eq k) _ (vCode_loads (k0_off3_eq k) (k0_off4_eq k) _ _)) (k0_off6_eq k) _ (vCode_loads (k0_off5_eq k) (k0_off6_eq k) _ _)) (k0_off8_eq k) _ (vCode_loads (k0_off7_eq k) (k0_off8_eq k) _ _)) (k0_off10_eq k) _ (vCode_loads (k0_off9_eq k) (k0_off10_eq k) _ _)) (k0_off12_eq k) _ (vCode_loads (k0_off11_eq k) (k0_off12_eq k) _ _)) (k0_off14_eq k) _ (vCode_loads (k0_off13_eq k) (k0_off14_eq k) _ _)) (k0_off16_eq k) _ (vCode_loads (k0_off15_eq k) (k0_off16_eq k) _ _))

/-- One trip's pieces of the second moment's scales are the tiles of the trip's strip. -/
theorem trip_vScale (𝒱 : Variants) (c : Dev nD) (bd : Option 𝒱.V) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) (k : Fin k0_t1_loop.trips) :
    Agree (sglue (vScale (ext x4) (ext x7) (ext x8))) (fun a b => a < 8 ∧ b / 128 = k.val) (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 k).2.2.2.2 := by
  unfold tripL_k0_t1 trip_k0_t1
  dsimp only
  exact (Agree.scons (Agree.scons (Agree.scons (Agree.scons (Agree.scons (Agree.scons (Agree.scons (Agree.scons (Agree.snone _) (k0_off1_eq k) _ (vScale_loads (k0_off1_eq k) (k0_off2_eq k) _ _)) (k0_off3_eq k) _ (by unfold k0_pay27 trip_k0_t1.sl.r_1 k0_pay26 trip_k0_t1.sl.cst_61; exact vScale_loads (k0_off3_eq k) (k0_off4_eq k) _ _)) (k0_off5_eq k) _ (vScale_loads (k0_off5_eq k) (k0_off6_eq k) _ _)) (k0_off7_eq k) _ (vScale_loads (k0_off7_eq k) (k0_off8_eq k) _ _)) (k0_off9_eq k) _ (vScale_loads (k0_off9_eq k) (k0_off10_eq k) _ _)) (k0_off11_eq k) _ (vScale_loads (k0_off11_eq k) (k0_off12_eq k) _ _)) (k0_off13_eq k) _ (vScale_loads (k0_off13_eq k) (k0_off14_eq k) _ _)) (k0_off15_eq k) _ (by unfold k0_pay5 trip_k0_t1.sl.r_30 trip_k0_t1.sl.r_31 trip_k0_t1.sl.cst_15; exact vScale_loads (k0_off15_eq k) (k0_off16_eq k) _ _))

end Cert.KernelIdeal.Tiles
-- ==== Proof.KIStaged.lean ====
/- Where a block of an array sits: the staging buffers' contents at one grid point as tiles of the whole arrays, on the
   part of the block inside the array. -/
module

public import proofs.«01_k».proof.Proof.KITrip
public import proofs.«01_k».proof.Proof.KIFrame
public import Idealize.ShloMosaic.Lib.Pipeline.Covers
public import Idealize.ShloMosaic.Lib.Pipeline.ValueKit

@[expose] public section

set_option maxRecDepth 16384

noncomputable section

namespace Cert.KernelIdeal.Tiles

open Cert.KernelIdeal Cert.KernelIdeal.Gen
open Idealize.ShloMosaic Idealize.ShloMosaic.TcCoe
open Idealize.ShloMosaic.Pipeline (Dat RDat Cfg Window BodyObligation BodyObligationLoose cellOf)

variable {F : FTy → Type} [FloatOps F] [Named F] [∀ e, Nonempty (Elt F e)]
variable (m : (ℓ : Loc nD τ sig) → Buf (Elt F) ℓ)

/-- A place of the block is transferred when it lies inside the array. -/
theorem moved_of {G : Pipeline.Grid} (w : Window sig G) (hk : w.kind = .blocked) (i : G.Coords) (j : w.block.Idx)
    (h : ∀ a, w.indexMap i a * w.size a + (j a).val < w.shape.size a) : w.moved i j = true := by
  rw [w.moved_iff]
  intro a
  have hc := w.hclip i a
  rw [hk] at hc
  have h' := h a
  have hj : (j a).val < w.size a := (j a).isLt
  show (j a).val < (w.clip i a).extent (w.size a)
  cases he : w.clip i a with
  | none => exact hj
  | some n => rw [he] at hc; have := hc.2.2; show (j a).val < n; change w.indexMap i a * w.size a + n = _ at this; omega

/-- A place of the block that is transferred lies inside the array. -/
theorem lt_of_moved {G : Pipeline.Grid} (w : Window sig G) (hk : w.kind = .blocked) (i : G.Coords) (j : w.block.Idx)
    (h : w.moved i j = true) (a : Fin w.shape.rank) : w.indexMap i a * w.size a + (j a).val < w.shape.size a := by
  have h' : (j a).val < (w.clip i a).extent (w.size a) := (w.moved_iff i j).1 h a
  have hc := w.hclip i a
  rw [hk] at hc
  have := Pipeline.Clip.OkAt.inb hc
  change w.indexMap i a * w.size a + _ ≤ _ at this
  omega

/-- The grid point's row of blocks. -/
abbrev gr (t : Fin cfg0.N) : ℕ := (cfg0.grid.coords t 0).val
/-- The grid point's column of blocks. -/
abbrev gc (t : Fin cfg0.N) : ℕ := (cfg0.grid.coords t 1).val

theorem gr_lt (t : Fin cfg0.N) : gr t < 12 := (cfg0.grid.coords t 0).isLt
theorem gc_lt (t : Fin cfg0.N) : gc t < 16 := (cfg0.grid.coords t 1).isLt

theorem word_toNat {n : ℕ} (h : n < 16) : (BitVec.ofNat 32 n).toNat = n := by
  rw [BitVec.toNat_ofNat]; omega

theorem index0_1 (t : Fin cfg0.N) : (cfg0.win 1).indexMap (cfg0.grid.coords t) 0 = gr t := word_toNat (lt_trans (gr_lt t) (by decide))
theorem index1_1 (t : Fin cfg0.N) : (cfg0.win 1).indexMap (cfg0.grid.coords t) 1 = gc t := word_toNat (gc_lt t)

/-- The param staged at a point are the array's, inside the array. -/
theorem staged_1 (c : Dev nD) (t : Fin cfg0.N) (d) (a b : ℕ) (ha : a < 1024) (hb : b < 512) (h : 1024 * gr t + a < 11904) :
    ext (n := 1024) (m := 512) ((cfg0.win 1).fill (cfg0.grid.coords t) d (iblk m c 1 t)) a b
      = ext (n := 11904) (m := 8192) (V m c (Pipeline.arrRef spec0 1)) (1024 * gr t + a) (512 * gc t + b) := by
  rw [ext_eq _ a b (ix2 ha hb) rfl rfl]
  have hm : (cfg0.win 1).moved (cfg0.grid.coords t) (ix2 ha hb) = true :=
    moved_of (cfg0.win 1) rfl _ _ fun (x : Fin 2) => match x with
      | ⟨0, _⟩ => by show (cfg0.win 1).indexMap (cfg0.grid.coords t) 0 * 1024 + a < 11904; rw [index0_1]; omega
      | ⟨1, _⟩ => by show (cfg0.win 1).indexMap (cfg0.grid.coords t) 1 * 512 + b < 8192; rw [index1_1]; have := gc_lt t; omega
  unfold Window.fill
  rw [dif_pos hm]
  unfold iblk
  rw [View.read_apply]
  refine (ext_eq _ _ _ _ ?_ ?_).symm
  · have e := index0_1 t; blk_simp; change _ * 1024 + a = _; rw [show win0_1.index t 0 = gr t from e]; omega
  · have e := index1_1 t; blk_simp; change _ * 512 + b = _; rw [show win0_1.index t 1 = gc t from e]; omega

theorem index0_2 (t : Fin cfg0.N) : (cfg0.win 2).indexMap (cfg0.grid.coords t) 0 = gr t := word_toNat (lt_trans (gr_lt t) (by decide))
theorem index1_2 (t : Fin cfg0.N) : (cfg0.win 2).indexMap (cfg0.grid.coords t) 1 = gc t := word_toNat (gc_lt t)

/-- The grad staged at a point are the array's, inside the array. -/
theorem staged_2 (c : Dev nD) (t : Fin cfg0.N) (d) (a b : ℕ) (ha : a < 1024) (hb : b < 512) (h : 1024 * gr t + a < 11904) :
    ext (n := 1024) (m := 512) ((cfg0.win 2).fill (cfg0.grid.coords t) d (iblk m c 2 t)) a b
      = ext (n := 11904) (m := 8192) (V m c (Pipeline.arrRef spec0 2)) (1024 * gr t + a) (512 * gc t + b) := by
  rw [ext_eq _ a b (ix2 ha hb) rfl rfl]
  have hm : (cfg0.win 2).moved (cfg0.grid.coords t) (ix2 ha hb) = true :=
    moved_of (cfg0.win 2) rfl _ _ fun (x : Fin 2) => match x with
      | ⟨0, _⟩ => by show (cfg0.win 2).indexMap (cfg0.grid.coords t) 0 * 1024 + a < 11904; rw [index0_2]; omega
      | ⟨1, _⟩ => by show (cfg0.win 2).indexMap (cfg0.grid.coords t) 1 * 512 + b < 8192; rw [index1_2]; have := gc_lt t; omega
  unfold Window.fill
  rw [dif_pos hm]
  unfold iblk
  rw [View.read_apply]
  refine (ext_eq _ _ _ _ ?_ ?_).symm
  · have e := index0_2 t; blk_simp; change _ * 1024 + a = _; rw [show win0_2.index t 0 = gr t from e]; omega
  · have e := index1_2 t; blk_simp; change _ * 512 + b = _; rw [show win0_2.index t 1 = gc t from e]; omega

theorem index0_3 (t : Fin cfg0.N) : (cfg0.win 3).indexMap (cfg0.grid.coords t) 0 = gr t := word_toNat (lt_trans (gr_lt t) (by decide))
theorem index1_3 (t : Fin cfg0.N) : (cfg0.win 3).indexMap (cfg0.grid.coords t) 1 = gc t := word_toNat (gc_lt t)

/-- The m codes staged at a point are the array's, inside the array. -/
theorem staged_3 (c : Dev nD) (t : Fin cfg0.N) (d) (a b : ℕ) (ha : a < 1024) (hb : b < 512) (h : 1024 * gr t + a < 11904) :
    ext (n := 1024) (m := 512) ((cfg0.win 3).fill (cfg0.grid.coords t) d (iblk m c 3 t)) a b
      = ext (n := 11904) (m := 8192) (V m c (Pipeline.arrRef spec0 3)) (1024 * gr t + a) (512 * gc t + b) := by
  rw [ext_eq _ a b (ix2 ha hb) rfl rfl]
  have hm : (cfg0.win 3).moved (cfg0.grid.coords t) (ix2 ha hb) = true :=
    moved_of (cfg0.win 3) rfl _ _ fun (x : Fin 2) => match x with
      | ⟨0, _⟩ => by show (cfg0.win 3).indexMap (cfg0.grid.coords t) 0 * 1024 + a < 11904; rw [index0_3]; omega
      | ⟨1, _⟩ => by show (cfg0.win 3).indexMap (cfg0.grid.coords t) 1 * 512 + b < 8192; rw [index1_3]; have := gc_lt t; omega
  unfold Window.fill
  rw [dif_pos hm]
  unfold iblk
  rw [View.read_apply]
  refine (ext_eq _ _ _ _ ?_ ?_).symm
  · have e := index0_3 t; blk_simp; change _ * 1024 + a = _; rw [show win0_3.index t 0 = gr t from e]; omega
  · have e := index1_3 t; blk_simp; change _ * 512 + b = _; rw [show win0_3.index t 1 = gc t from e]; omega

theorem index0_4 (t : Fin cfg0.N) : (cfg0.win 4).indexMap (cfg0.grid.coords t) 0 = gr t := word_toNat (lt_trans (gr_lt t) (by decide))
theorem index1_4 (t : Fin cfg0.N) : (cfg0.win 4).indexMap (cfg0.grid.coords t) 1 = gc t := word_toNat (gc_lt t)

/-- The m scale staged at a point are the array's, inside the array. -/
theorem staged_4 (c : Dev nD) (t : Fin cfg0.N) (d) (a b : ℕ) (ha : a < 8) (hb : b < 512) (h : 8 * gr t + a < 93) :
    ext (n := 8) (m := 512) ((cfg0.win 4).fill (cfg0.grid.coords t) d (iblk m c 4 t)) a b
      = ext (n := 93) (m := 8192) (V m c (Pipeline.arrRef spec0 4)) (8 * gr t + a) (512 * gc t + b) := by
  rw [ext_eq _ a b (ix2 ha hb) rfl rfl]
  have hm : (cfg0.win 4).moved (cfg0.grid.coords t) (ix2 ha hb) = true :=
    moved_of (cfg0.win 4) rfl _ _ fun (x : Fin 2) => match x with
      | ⟨0, _⟩ => by show (cfg0.win 4).indexMap (cfg0.grid.coords t) 0 * 8 + a < 93; rw [index0_4]; omega
      | ⟨1, _⟩ => by show (cfg0.win 4).indexMap (cfg0.grid.coords t) 1 * 512 + b < 8192; rw [index1_4]; have := gc_lt t; omega
  unfold Window.fill
  rw [dif_pos hm]
  unfold iblk
  rw [View.read_apply]
  refine (ext_eq _ _ _ _ ?_ ?_).symm
  · have e := index0_4 t; blk_simp; change _ * 8 + a = _; rw [show win0_4.index t 0 = gr t from e]; omega
  · have e := index1_4 t; blk_simp; change _ * 512 + b = _; rw [show win0_4.index t 1 = gc t from e]; omega

theorem index0_5 (t : Fin cfg0.N) : (cfg0.win 5).indexMap (cfg0.grid.coords t) 0 = gr t := word_toNat (lt_trans (gr_lt t) (by decide))
theorem index1_5 (t : Fin cfg0.N) : (cfg0.win 5).indexMap (cfg0.grid.coords t) 1 = gc t := word_toNat (gc_lt t)

/-- The v codes staged at a point are the array's, inside the array. -/
theorem staged_5 (c : Dev nD) (t : Fin cfg0.N) (d) (a b : ℕ) (ha : a < 1024) (hb : b < 512) (h : 1024 * gr t + a < 11904) :
    ext (n := 1024) (m := 512) ((cfg0.win 5).fill (cfg0.grid.coords t) d (iblk m c 5 t)) a b
      = ext (n := 11904) (m := 8192) (V m c (Pipeline.arrRef spec0 5)) (1024 * gr t + a) (512 * gc t + b) := by
  rw [ext_eq _ a b (ix2 ha hb) rfl rfl]
  have hm : (cfg0.win 5).moved (cfg0.grid.coords t) (ix2 ha hb) = true :=
    moved_of (cfg0.win 5) rfl _ _ fun (x : Fin 2) => match x with
      | ⟨0, _⟩ => by show (cfg0.win 5).indexMap (cfg0.grid.coords t) 0 * 1024 + a < 11904; rw [index0_5]; omega
      | ⟨1, _⟩ => by show (cfg0.win 5).indexMap (cfg0.grid.coords t) 1 * 512 + b < 8192; rw [index1_5]; have := gc_lt t; omega
  unfold Window.fill
  rw [dif_pos hm]
  unfold iblk
  rw [View.read_apply]
  refine (ext_eq _ _ _ _ ?_ ?_).symm
  · have e := index0_5 t; blk_simp; change _ * 1024 + a = _; rw [show win0_5.index t 0 = gr t from e]; omega
  · have e := index1_5 t; blk_simp; change _ * 512 + b = _; rw [show win0_5.index t 1 = gc t from e]; omega

theorem index0_6 (t : Fin cfg0.N) : (cfg0.win 6).indexMap (cfg0.grid.coords t) 0 = gr t := word_toNat (lt_trans (gr_lt t) (by decide))
theorem index1_6 (t : Fin cfg0.N) : (cfg0.win 6).indexMap (cfg0.grid.coords t) 1 = gc t := word_toNat (gc_lt t)

/-- The v scale staged at a point are the array's, inside the array. -/
theorem staged_6 (c : Dev nD) (t : Fin cfg0.N) (d) (a b : ℕ) (ha : a < 8) (hb : b < 512) (h : 8 * gr t + a < 93) :
    ext (n := 8) (m := 512) ((cfg0.win 6).fill (cfg0.grid.coords t) d (iblk m c 6 t)) a b
      = ext (n := 93) (m := 8192) (V m c (Pipeline.arrRef spec0 6)) (8 * gr t + a) (512 * gc t + b) := by
  rw [ext_eq _ a b (ix2 ha hb) rfl rfl]
  have hm : (cfg0.win 6).moved (cfg0.grid.coords t) (ix2 ha hb) = true :=
    moved_of (cfg0.win 6) rfl _ _ fun (x : Fin 2) => match x with
      | ⟨0, _⟩ => by show (cfg0.win 6).indexMap (cfg0.grid.coords t) 0 * 8 + a < 93; rw [index0_6]; omega
      | ⟨1, _⟩ => by show (cfg0.win 6).indexMap (cfg0.grid.coords t) 1 * 512 + b < 8192; rw [index1_6]; have := gc_lt t; omega
  unfold Window.fill
  rw [dif_pos hm]
  unfold iblk
  rw [View.read_apply]
  refine (ext_eq _ _ _ _ ?_ ?_).symm
  · have e := index0_6 t; blk_simp; change _ * 8 + a = _; rw [show win0_6.index t 0 = gr t from e]; omega
  · have e := index1_6 t; blk_simp; change _ * 512 + b = _; rw [show win0_6.index t 1 = gc t from e]; omega

end Cert.KernelIdeal.Tiles
-- ==== Proof.KIValue.lean ====
/- What the kernel body leaves at one grid point: each output's staging buffer holds the array glued of the tiles'
   results, and the scratch holds the two coefficient planes of the step count. -/
module

public import proofs.«01_k».proof.Proof.KITrip
public import proofs.«01_k».proof.Proof.KIBody

@[expose] public section

set_option maxRecDepth 16384

noncomputable section

namespace Cert.KernelIdeal.Tiles

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The pieces of the first `n` trips are the tiles of the first `n` strips of each output. -/
theorem trips_agree (𝒱 : Variants) (c : Dev nD) (bd : Option 𝒱.V) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (X14 : BufTy.Contents (Elt F) arg14.view.ty) : ∀ n : ℕ, n ≤ k0_t1_loop.trips →
      Agree (glue (deltaT (View.readAt (Elt F) arg14.view (Rect.unit (s := S2x8x128) ![0, 0, 0] S1x1x128.size inb_S2x8x128_S1x1x128_0_0_0).toLoadRect X14) (View.readAt (Elt F) arg14.view (Rect.unit (s := S2x8x128) ![1, 0, 0] S1x1x128.size inb_S2x8x128_S1x1x128_1_0_0).toLoadRect X14) (ext x3) (ext x4) (ext x5) (ext x6) (ext x7) (ext x8))) (fun a b => a < 1024 ∧ b / 128 < n) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 n).1 ∧
      Agree (glue (mCode (ext x4) (ext x5) (ext x6))) (fun a b => a < 1024 ∧ b / 128 < n) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 n).2.1 ∧
      Agree (sglue (mScale (ext x4) (ext x5) (ext x6))) (fun a b => a < 8 ∧ b / 128 < n) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 n).2.2.1 ∧
      Agree (glue (vCode (ext x4) (ext x7) (ext x8))) (fun a b => a < 1024 ∧ b / 128 < n) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 n).2.2.2.1 ∧
      Agree (sglue (vScale (ext x4) (ext x7) (ext x8))) (fun a b => a < 8 ∧ b / 128 < n) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 (harg3.unread x3) (harg4.unread x4) (harg5.unread x5) (harg6.unread x6) (harg7.unread x7) (harg8.unread x8) X14 n).2.2.2.2
  | 0, _ => ⟨Agree.nil _ fun a b h => Nat.not_lt_zero _ h.2, Agree.nil _ fun a b h => Nat.not_lt_zero _ h.2, Agree.nil _ fun a b h => Nat.not_lt_zero _ h.2, Agree.nil _ fun a b h => Nat.not_lt_zero _ h.2, Agree.nil _ fun a b h => Nat.not_lt_zero _ h.2⟩
  | n + 1, h => by
    have ih := trips_agree 𝒱 c bd i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 X14 n (Nat.le_of_succ_le h)
    rw [show n + 1 = (⟨n, h⟩ : Fin k0_t1_loop.trips).val + 1 from rfl, pb_k0_t1_succ]
    exact ⟨(trip_delta 𝒱 c bd i arg2 harg2 arg3 harg3 arg4 harg4 arg5 harg5 arg6 harg6 arg7 harg7 arg8 harg8 arg9 harg9 arg10 harg10 arg11 harg11 arg12 harg12 arg13 harg13 arg14 harg14 x3 x4 x5 x6 x7 x8 X14 ⟨n, h⟩).append ih.1, (trip_mCode 𝒱 c bd i arg2 harg2 arg3 harg3 arg4 harg4 arg5 harg5 arg6 harg6 arg7 harg7 arg8 harg8 arg9 harg9 arg10 harg10 arg11 harg11 arg12 harg12 arg13 harg13 arg14 harg14 x3 x4 x5 x6 x7 x8 X14 ⟨n, h⟩).append ih.2.1, (trip_mScale 𝒱 c bd i arg2 harg2 arg3 harg3 arg4 harg4 arg5 harg5 arg6 harg6 arg7 harg7 arg8 harg8 arg9 harg9 arg10 harg10 arg11 harg11 arg12 harg12 arg13 harg13 arg14 harg14 x3 x4 x5 x6 x7 x8 X14 ⟨n, h⟩).append ih.2.2.1, (trip_vCode 𝒱 c bd i arg2 harg2 arg3 harg3 arg4 harg4 arg5 harg5 arg6 harg6 arg7 harg7 arg8 harg8 arg9 harg9 arg10 harg10 arg11 harg11 arg12 harg12 arg13 harg13 arg14 harg14 x3 x4 x5 x6 x7 x8 X14 ⟨n, h⟩).append ih.2.2.2.1, (trip_vScale 𝒱 c bd i arg2 harg2 arg3 harg3 arg4 harg4 arg5 harg5 arg6 harg6 arg7 harg7 arg8 harg8 arg9 harg9 arg10 harg10 arg11 harg11 arg12 harg12 arg13 harg13 arg14 harg14 x3 x4 x5 x6 x7 x8 X14 ⟨n, h⟩).append ih.2.2.2.2⟩

theorem trips_eq : k0_t1_loop.trips = 4 := by decide

/-- The first coefficient's row, as the loop loads it. -/
def cA (w : Elt F .i32) : Vec F S1x1x128 .f32 := fun x => coef w ((Rect.unit (s := S2x8x128) ![0, 0, 0] S1x1x128.size inb_S2x8x128_S1x1x128_0_0_0).emb x)
/-- The second coefficient's row, as the loop loads it. -/
def cB (w : Elt F .i32) : Vec F S1x1x128 .f32 := fun x => coef w ((Rect.unit (s := S2x8x128) ![1, 0, 0] S1x1x128.size inb_S2x8x128_S1x1x128_1_0_0).emb x)

/-- A buffer at the writes of pieces that agree with an array, over anything, is a buffer at the array. -/
theorem owns_of_agree (c : Dev nD) {sp : Space} {n k N J : ℕ} {e : EltTy} (a : Memref sig .tc sp ⟨2, ![n, k]⟩ e) {G : ℕ → ℕ → Elt F e} {L : List (View.Piece (Elt F) ⟨2, ![n, k]⟩ e)}
    (h : Agree G (fun a b => a < N ∧ b / 128 < J) L) (hn : n = N) (hk : k = 128 * J) :
    (iprop(∃ f, a.view.loc (c : Thread nD τ) ↦[a.view.set]{fullShare} a.view.writes (Elt F) f L) : sProp 𝕄)
      ⊢ owns (c : Thread nD τ) a fullShare (fun y => G (y 0).val (y 1).val) := by
  unfold owns
  iintro ⟨%f, H⟩
  iexists (a.view.writes (Elt F) f L); isplitr; · ipureintro; exact h.read hn hk a f
  iexact H

/-- The pieces of the whole loop, with the scratch holding the coefficients. -/
theorem pieces_agree (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) :
      Agree (glue (deltaT (cA (x2 here)) (cB (x2 here)) (ext x3) (ext x4) (ext x5) (ext x6) (ext x7) (ext x8))) (fun a b => a < 1024 ∧ b / 128 < 4) (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (harg14.unread (coef (x2 here)))).1 ∧
      Agree (glue (mCode (ext x4) (ext x5) (ext x6))) (fun a b => a < 1024 ∧ b / 128 < 4) (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (harg14.unread (coef (x2 here)))).2.1 ∧
      Agree (sglue (mScale (ext x4) (ext x5) (ext x6))) (fun a b => a < 8 ∧ b / 128 < 4) (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (harg14.unread (coef (x2 here)))).2.2.1 ∧
      Agree (glue (vCode (ext x4) (ext x7) (ext x8))) (fun a b => a < 1024 ∧ b / 128 < 4) (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (harg14.unread (coef (x2 here)))).2.2.2.1 ∧
      Agree (sglue (vScale (ext x4) (ext x7) (ext x8))) (fun a b => a < 8 ∧ b / 128 < 4) (pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (harg14.unread (coef (x2 here)))).2.2.2.2 := by
  have h := trips_agree Variants.none c none i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (harg14.unread (coef (x2 here))) k0_t1_loop.trips le_rfl
  have hA : (View.readAt (Elt F) arg14.view (Rect.unit (s := S2x8x128) ![0, 0, 0] S1x1x128.size inb_S2x8x128_S1x1x128_0_0_0).toLoadRect (harg14.unread (coef (x2 here)))) = cA (x2 here) := funext fun x => harg14.readAt_unread _ _ x
  have hB : (View.readAt (Elt F) arg14.view (Rect.unit (s := S2x8x128) ![1, 0, 0] S1x1x128.size inb_S2x8x128_S1x1x128_1_0_0).toLoadRect (harg14.unread (coef (x2 here)))) = cB (x2 here) := funext fun x => harg14.readAt_unread _ _ x
  rw [hA, hB] at h
  rw [trips_eq] at h
  unfold pieces
  rw [trips_eq]
  exact h

/-- Any point, the scratch holding the coefficients from the second point on. -/
theorem run_value (c : Dev nD) (i : grid0.Coords) (arg2 : Memref sig .tc .smem S1x1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .i8) (harg5 : arg5.IsWhole) (arg6 : Memref sig .tc .vmem S8x512 .f32) (harg6 : arg6.IsWhole) (arg7 : Memref sig .tc .vmem S1024x512 .i8) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .i8) (harg10 : arg10.IsWhole) (arg11 : Memref sig .tc .vmem S8x512 .f32) (harg11 : arg11.IsWhole) (arg12 : Memref sig .tc .vmem S1024x512 .i8) (harg12 : arg12.IsWhole) (arg13 : Memref sig .tc .vmem S8x512 .f32) (harg13 : arg13.IsWhole) (arg14 : Memref sig .tc .vmem S2x8x128 .f32) (harg14 : arg14.IsWhole)
    (x2 : Vec F S1x1 .i32) (x3 : Vec F S1024x512 .f32) (x4 : Vec F S1024x512 .bf16) (x5 : Vec F S1024x512 .i8) (x6 : Vec F S8x512 .f32) (x7 : Vec F S1024x512 .i8) (x8 : Vec F S8x512 .f32) (g14 : BufTy.Contents (Elt F) arg14.view.ty) (hc : ¬ first i → g14 = harg14.unread (coef (x2 here))) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} g14)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (fun y => glue (deltaT (cA (x2 here)) (cB (x2 here)) (ext x3) (ext x4) (ext x5) (ext x6) (ext x7) (ext x8)) (y 0).val (y 1).val) ∗ owns (c : Thread nD τ) arg10 fullShare (fun y => glue (mCode (ext x4) (ext x5) (ext x6)) (y 0).val (y 1).val) ∗ owns (c : Thread nD τ) arg11 fullShare (fun y => sglue (mScale (ext x4) (ext x5) (ext x6)) (y 0).val (y 1).val) ∗ owns (c : Thread nD τ) arg12 fullShare (fun y => glue (vCode (ext x4) (ext x7) (ext x8)) (y 0).val (y 1).val) ∗ owns (c : Thread nD τ) arg13 fullShare (fun y => sglue (vScale (ext x4) (ext x7) (ext x8)) (y 0).val (y 1).val) ∗ (arg14.view.loc (c : Thread nD τ) ↦[arg14.view.set]{fullShare} harg14.unread (coef (x2 here)))) -∗ K ⟨⟩))
      ⊢ wp frame (wpE (defs₀ (F := F)) Variants.none c none) E (cc0_adamw_int8 i arg2 harg2 arg3 harg3 arg4 harg4 arg5 harg5 arg6 harg6 arg7 harg7 arg8 harg8 arg9 harg9 arg10 harg10 arg11 harg11 arg12 harg12 arg13 harg13 arg14 harg14) K := by
  have hg := pieces_agree c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8
  iintro ⟨H2, H3, H4, H5, H6, H7, H8, H9, H10, H11, H12, H13, H14, Hk⟩
  by_cases hf : first i
  · iapply (run_first c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 _ hf E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨%X14, H2, H3, H4, H5, H6, H7, H8, H9, H10, H11, H12, H13, H14, %hX⟩
    subst hX
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (owns_of_agree c arg9 hg.1 rfl rfl); iexact H9
    isplitl [H10]; · iapply (owns_of_agree c arg10 hg.2.1 rfl rfl); iexact H10
    isplitl [H11]; · iapply (owns_of_agree c arg11 hg.2.2.1 rfl rfl); iexact H11
    isplitl [H12]; · iapply (owns_of_agree c arg12 hg.2.2.2.1 rfl rfl); iexact H12
    isplitl [H13]; · iapply (owns_of_agree c arg13 hg.2.2.2.2 rfl rfl); iexact H13
    iexact H14
  · obtain rfl := hc hf
    iapply (run_rest c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 _ hf E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H8, H9, H10, H11, H12, H13, H14⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (owns_of_agree c arg9 hg.1 rfl rfl); iexact H9
    isplitl [H10]; · iapply (owns_of_agree c arg10 hg.2.1 rfl rfl); iexact H10
    isplitl [H11]; · iapply (owns_of_agree c arg11 hg.2.2.1 rfl rfl); iexact H11
    isplitl [H12]; · iapply (owns_of_agree c arg12 hg.2.2.2.1 rfl rfl); iexact H12
    isplitl [H13]; · iapply (owns_of_agree c arg13 hg.2.2.2.2 rfl rfl); iexact H13
    iexact H14

end Cert.KernelIdeal.Tiles
-- ==== Proof.KIRun.lean ====
/- The kernel's run with its results: every output array ends as the array glued of the results of its tiles, each tile's
   result computed from the same tile of the argument arrays. -/
module

public import proofs.«01_k».proof.Proof.KIStaged
public import proofs.«01_k».proof.Proof.KIValue

@[expose] public section

set_option maxRecDepth 16384

noncomputable section

namespace Cert.KernelIdeal.Tiles

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

/-! ## Tiles of a block and tiles of the array -/

section Shift

variable {α : Type} {r k : ℕ}

/-- A function of the block that is the array's inside the array. -/
abbrev Inside (R N : ℕ) (r k : ℕ) (f g : ℕ → ℕ → α) : Prop :=
  ∀ a b, a < R → b < 512 → R * r + a < N → f a b = g (R * r + a) (512 * k + b)

/-- A tile of the block inside the array is a tile of the array. -/
theorem tile_shift {f g : ℕ → ℕ → α} (h : Inside 1024 11904 r k f g) {I J : ℕ} (hI : I < 8) (hJ : J < 4) (hr : 8 * r + I < 93) :
    tile f I J = tile g (8 * r + I) (4 * k + J) := by
  funext p
  have h0 : (p 0).val < 128 := (p 0).isLt
  have h1 : (p 1).val < 128 := (p 1).isLt
  unfold tile
  rw [h _ _ (by omega) (by omega) (by omega)]
  exact congrArg₂ g (by omega) (by omega)

/-- A 1×128 piece of the block inside the array is a piece of the array. -/
theorem stile_shift {f g : ℕ → ℕ → α} (h : Inside 8 93 r k f g) {I J : ℕ} (hI : I < 8) (hJ : J < 4) (hr : 8 * r + I < 93) :
    stile f I J = stile g (8 * r + I) (4 * k + J) := by
  funext p
  have h0 : (p 0).val < 1 := (p 0).isLt
  have h1 : (p 1).val < 128 := (p 1).isLt
  unfold stile
  rw [h _ _ (by omega) (by omega) (by omega)]
  exact congrArg₂ g (by omega) (by omega)

/-- The array glued of a block's tiles is, inside the array, that glued of the array's. -/
theorem glue_shift {T T' : ℕ → ℕ → S128x128.Idx → α} (h : ∀ I J, I < 8 → J < 4 → 8 * r + I < 93 → T I J = T' (8 * r + I) (4 * k + J))
    {a b : ℕ} (ha : a < 1024) (hb : b < 512) (hr : 1024 * r + a < 11904) : glue T a b = glue T' (1024 * r + a) (512 * k + b) := by
  rw [glue_eq T' (8 * r + a / 128) (4 * k + b / 128) (ix2 (Nat.mod_lt a (by decide)) (Nat.mod_lt b (by decide)))
    (by show 1024 * r + a = _ + a % 128; omega) (by show 512 * k + b = _ + b % 128; omega), ← h _ _ (by omega) (by omega) (by omega)]
  rfl

/-- The same of the arrays glued of 1×128 pieces. -/
theorem sglue_shift {T T' : ℕ → ℕ → S1x128.Idx → α} (h : ∀ I J, I < 8 → J < 4 → 8 * r + I < 93 → T I J = T' (8 * r + I) (4 * k + J))
    {a b : ℕ} (ha : a < 8) (hb : b < 512) (hr : 8 * r + a < 93) : sglue T a b = sglue T' (8 * r + a) (512 * k + b) := by
  rw [sglue_eq T' (8 * r + a) (4 * k + b / 128) (ix2 Nat.one_pos (Nat.mod_lt b (by decide)))
    rfl (by show 512 * k + b = _ + b % 128; omega), ← h _ _ (by omega) (by omega) (by omega)]
  rfl

end Shift

variable {F : FTy → Type} [FloatOps F] [Named F] [∀ e, Nonempty (Elt F e)]

section Results

variable {r k : ℕ} {f1 g1 : ℕ → ℕ → Elt F .f32} {f2 g2 : ℕ → ℕ → Elt F .bf16} {f3 g3 f5 g5 : ℕ → ℕ → Elt F .i8} {f4 g4 f6 g6 : ℕ → ℕ → Elt F .f32}

/-- The block's delta is, inside the array, the array's. -/
theorem delta_shift (A B : Vec F S1x1x128 .f32) (h1 : Inside 1024 11904 r k f1 g1) (h2 : Inside 1024 11904 r k f2 g2) (h3 : Inside 1024 11904 r k f3 g3) (h4 : Inside 8 93 r k f4 g4) (h5 : Inside 1024 11904 r k f5 g5) (h6 : Inside 8 93 r k f6 g6) :
    Inside 1024 11904 r k (glue (deltaT A B f1 f2 f3 f4 f5 f6)) (glue (deltaT A B g1 g2 g3 g4 g5 g6)) := fun a b ha hb hr =>
  glue_shift (fun I J hI hJ hr => by unfold deltaT; rw [tile_shift h1 hI hJ hr, tile_shift h2 hI hJ hr, tile_shift h3 hI hJ hr, stile_shift h4 hI hJ hr, tile_shift h5 hI hJ hr, stile_shift h6 hI hJ hr]) ha hb hr

/-- The block's mCode is, inside the array, the array's. -/
theorem mCode_shift (h2 : Inside 1024 11904 r k f2 g2) (h3 : Inside 1024 11904 r k f3 g3) (h4 : Inside 8 93 r k f4 g4) :
    Inside 1024 11904 r k (glue (mCode f2 f3 f4)) (glue (mCode g2 g3 g4)) := fun a b ha hb hr =>
  glue_shift (fun I J hI hJ hr => by unfold mCode mT; rw [tile_shift h2 hI hJ hr, tile_shift h3 hI hJ hr, stile_shift h4 hI hJ hr]) ha hb hr

/-- The block's mScale is, inside the array, the array's. -/
theorem mScale_shift (h2 : Inside 1024 11904 r k f2 g2) (h3 : Inside 1024 11904 r k f3 g3) (h4 : Inside 8 93 r k f4 g4) :
    Inside 8 93 r k (sglue (mScale f2 f3 f4)) (sglue (mScale g2 g3 g4)) := fun a b ha hb hr =>
  sglue_shift (fun I J hI hJ hr => by unfold mScale mT; rw [tile_shift h2 hI hJ hr, tile_shift h3 hI hJ hr, stile_shift h4 hI hJ hr]) ha hb hr

/-- The block's vCode is, inside the array, the array's. -/
theorem vCode_shift (h2 : Inside 1024 11904 r k f2 g2) (h5 : Inside 1024 11904 r k f5 g5) (h6 : Inside 8 93 r k f6 g6) :
    Inside 1024 11904 r k (glue (vCode f2 f5 f6)) (glue (vCode g2 g5 g6)) := fun a b ha hb hr =>
  glue_shift (fun I J hI hJ hr => by unfold vCode vT; rw [tile_shift h2 hI hJ hr, tile_shift h5 hI hJ hr, stile_shift h6 hI hJ hr]) ha hb hr

/-- The block's vScale is, inside the array, the array's. -/
theorem vScale_shift (h2 : Inside 1024 11904 r k f2 g2) (h5 : Inside 1024 11904 r k f5 g5) (h6 : Inside 8 93 r k f6 g6) :
    Inside 8 93 r k (sglue (vScale f2 f5 f6)) (sglue (vScale g2 g5 g6)) := fun a b ha hb hr =>
  sglue_shift (fun I J hI hJ hr => by unfold vScale vT; rw [tile_shift h2 hI hJ hr, tile_shift h5 hI hJ hr, stile_shift h6 hI hJ hr]) ha hb hr

end Results

variable (m : (ℓ : Loc nD τ sig) → Buf (Elt F) ℓ) (ρ : Dev nD → PrngReg)

local notation "𝕄" => MT nD τ sig Unit (Elt F) ℕ (UR sig nD τ) ℕ

/-- The step count the kernel is handed. -/
def tword (c : Dev nD) : Elt F .i32 := V m c (Pipeline.arrRef spec0 0) here

/-- The param array, as a function of two naturals. -/
def arr1 (c : Dev nD) : ℕ → ℕ → Elt F .f32 := ext (n := 11904) (m := 8192) (V m c (Pipeline.arrRef spec0 1))

/-- The grad array, as a function of two naturals. -/
def arr2 (c : Dev nD) : ℕ → ℕ → Elt F .bf16 := ext (n := 11904) (m := 8192) (V m c (Pipeline.arrRef spec0 2))

/-- The m codes array, as a function of two naturals. -/
def arr3 (c : Dev nD) : ℕ → ℕ → Elt F .i8 := ext (n := 11904) (m := 8192) (V m c (Pipeline.arrRef spec0 3))

/-- The m scale array, as a function of two naturals. -/
def arr4 (c : Dev nD) : ℕ → ℕ → Elt F .f32 := ext (n := 93) (m := 8192) (V m c (Pipeline.arrRef spec0 4))

/-- The v codes array, as a function of two naturals. -/
def arr5 (c : Dev nD) : ℕ → ℕ → Elt F .i8 := ext (n := 11904) (m := 8192) (V m c (Pipeline.arrRef spec0 5))

/-- The v scale array, as a function of two naturals. -/
def arr6 (c : Dev nD) : ℕ → ℕ → Elt F .f32 := ext (n := 93) (m := 8192) (V m c (Pipeline.arrRef spec0 6))

/-- The proof data: each input's staging buffer holds its block, each output's the arrays' result; the scratch holds the
    coefficients from the first point on. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (Classical.arbitrary _) (iblk m c 1 t)
    | ⟨2, _⟩ => (cfg0.win 2).fill (cfg0.grid.coords t) (Classical.arbitrary _) (iblk m c 2 t)
    | ⟨3, _⟩ => (cfg0.win 3).fill (cfg0.grid.coords t) (Classical.arbitrary _) (iblk m c 3 t)
    | ⟨4, _⟩ => (cfg0.win 4).fill (cfg0.grid.coords t) (Classical.arbitrary _) (iblk m c 4 t)
    | ⟨5, _⟩ => (cfg0.win 5).fill (cfg0.grid.coords t) (Classical.arbitrary _) (iblk m c 5 t)
    | ⟨6, _⟩ => (cfg0.win 6).fill (cfg0.grid.coords t) (Classical.arbitrary _) (iblk m c 6 t)
    | ⟨7, _⟩ => fun y => glue (deltaT (cA (tword m c)) (cB (tword m c)) (arr1 m c) (arr2 m c) (arr3 m c) (arr4 m c) (arr5 m c) (arr6 m c)) (1024 * gr t + (y 0).val) (512 * gc t + (y 1).val)
    | ⟨8, _⟩ => fun y => glue (mCode (arr2 m c) (arr3 m c) (arr4 m c)) (1024 * gr t + (y 0).val) (512 * gc t + (y 1).val)
    | ⟨9, _⟩ => fun y => sglue (mScale (arr2 m c) (arr3 m c) (arr4 m c)) (8 * gr t + (y 0).val) (512 * gc t + (y 1).val)
    | ⟨10, _⟩ => fun y => glue (vCode (arr2 m c) (arr5 m c) (arr6 m c)) (1024 * gr t + (y 0).val) (512 * gc t + (y 1).val)
    | ⟨11, _⟩ => fun y => sglue (vScale (arr2 m c) (arr5 m c) (arr6 m c)) (8 * gr t + (y 0).val) (512 * gc t + (y 1).val)
  Φ t := iprop((∃ f, ⌜t ≠ 0 → f = (Memref.isWhole_whole cc0_scratch0).unread (coef (tword m c))⌝
    ∗ ((c : Thread nD τ).loc cc0_scratch0) ↦{fullShare} f) ∗ ∃ r, prngReg c r)
  q _ := fullShare
  owed _ := 0

/-- The step count staged at a point is the array's. -/
theorem iblk_0 (c : Dev nD) (t : Fin cfg0.N) : (iblk m c 0 t : Vec F S1x1 .i32) here = tword m c := by
  unfold iblk tword
  rw [View.read_apply]
  exact congrArg (V m c (Pipeline.arrRef spec0 0)) (eq_here _)

/-- The grid's first point takes the body's first conditional. -/
theorem first_of_zero (t : Fin cfg0.N) (h : t.castSucc = 0) : first (cfg0.grid.coords t) := by
  have hv : t.val = 0 := congrArg Fin.val h
  obtain rfl : t = ⟨0, by decide⟩ := Fin.ext hv
  decide

theorem vΦ (c : Dev nD) (t : Fin (cfg0.N + 1)) : (vdats m 0 c).Φ t
    = iprop((∃ f, ⌜t ≠ 0 → f = (Memref.isWhole_whole cc0_scratch0).unread (coef (tword m c))⌝
    ∗ ((c : Thread nD τ).loc cc0_scratch0) ↦{fullShare} f) ∗ ∃ r, prngReg c r) := rfl

theorem vbefore_0 (c : Dev nD) (t : Fin cfg0.N) (d) : (vdats m 0 c).before 0 t d = iblk m c 0 t :=
  before0_0_of m (vdats m 0 c) rfl (fun _ => rfl) t d
theorem vbefore_1 (c : Dev nD) (t : Fin cfg0.N) (d) : (vdats m 0 c).before 1 t d = (cfg0.win 1).fill (cfg0.grid.coords t) d (iblk m c 1 t) := by
  unfold Dat.before; rw [if_pos (fetch0_1 t)]; rfl
theorem vbefore_2 (c : Dev nD) (t : Fin cfg0.N) (d) : (vdats m 0 c).before 2 t d = (cfg0.win 2).fill (cfg0.grid.coords t) d (iblk m c 2 t) := by
  unfold Dat.before; rw [if_pos (fetch0_2 t)]; rfl
theorem vbefore_3 (c : Dev nD) (t : Fin cfg0.N) (d) : (vdats m 0 c).before 3 t d = (cfg0.win 3).fill (cfg0.grid.coords t) d (iblk m c 3 t) := by
  unfold Dat.before; rw [if_pos (fetch0_3 t)]; rfl
theorem vbefore_4 (c : Dev nD) (t : Fin cfg0.N) (d) : (vdats m 0 c).before 4 t d = (cfg0.win 4).fill (cfg0.grid.coords t) d (iblk m c 4 t) := by
  unfold Dat.before; rw [if_pos (fetch0_4 t)]; rfl
theorem vbefore_5 (c : Dev nD) (t : Fin cfg0.N) (d) : (vdats m 0 c).before 5 t d = (cfg0.win 5).fill (cfg0.grid.coords t) d (iblk m c 5 t) := by
  unfold Dat.before; rw [if_pos (fetch0_5 t)]; rfl
theorem vbefore_6 (c : Dev nD) (t : Fin cfg0.N) (d) : (vdats m 0 c).before 6 t d = (cfg0.win 6).fill (cfg0.grid.coords t) d (iblk m c 6 t) := by
  unfold Dat.before; rw [if_pos (fetch0_6 t)]; rfl

theorem index0_7 (t : Fin cfg0.N) : (cfg0.win 7).indexMap (cfg0.grid.coords t) 0 = gr t := word_toNat (lt_trans (gr_lt t) (by decide))
theorem index1_7 (t : Fin cfg0.N) : (cfg0.win 7).indexMap (cfg0.grid.coords t) 1 = gc t := word_toNat (gc_lt t)

theorem index0_8 (t : Fin cfg0.N) : (cfg0.win 8).indexMap (cfg0.grid.coords t) 0 = gr t := word_toNat (lt_trans (gr_lt t) (by decide))
theorem index1_8 (t : Fin cfg0.N) : (cfg0.win 8).indexMap (cfg0.grid.coords t) 1 = gc t := word_toNat (gc_lt t)

theorem index0_9 (t : Fin cfg0.N) : (cfg0.win 9).indexMap (cfg0.grid.coords t) 0 = gr t := word_toNat (lt_trans (gr_lt t) (by decide))
theorem index1_9 (t : Fin cfg0.N) : (cfg0.win 9).indexMap (cfg0.grid.coords t) 1 = gc t := word_toNat (gc_lt t)

theorem index0_10 (t : Fin cfg0.N) : (cfg0.win 10).indexMap (cfg0.grid.coords t) 0 = gr t := word_toNat (lt_trans (gr_lt t) (by decide))
theorem index1_10 (t : Fin cfg0.N) : (cfg0.win 10).indexMap (cfg0.grid.coords t) 1 = gc t := word_toNat (gc_lt t)

theorem index0_11 (t : Fin cfg0.N) : (cfg0.win 11).indexMap (cfg0.grid.coords t) 0 = gr t := word_toNat (lt_trans (gr_lt t) (by decide))
theorem index1_11 (t : Fin cfg0.N) : (cfg0.win 11).indexMap (cfg0.grid.coords t) 1 = gc t := word_toNat (gc_lt t)

/-- A block whose places inside the array hold the array's delta is one the proof data allows. -/
theorem left_7 (c : Dev nD) (t : Fin cfg0.N) (G : ℕ → ℕ → Elt F (cfg0.win 7).elt)
    (h : Inside 1024 11904 (gr t) (gc t) G (glue (deltaT (cA (tword m c)) (cB (tword m c)) (arr1 m c) (arr2 m c) (arr3 m c) (arr4 m c) (arr5 m c) (arr6 m c)))) :
    (cfg0.win 7).fill (cfg0.grid.coords t) (fun y => G (y 0).val (y 1).val) ((cfg0.win 7).cut (cfg0.grid.coords t) ((vdats m 0 c).after 7 t)) = fun y => G (y 0).val (y 1).val := by
  funext j
  unfold Window.fill
  by_cases hm : (cfg0.win 7).moved (cfg0.grid.coords t) j = true
  · rw [dif_pos hm]
    have h0 := lt_of_moved (cfg0.win 7) rfl _ j hm 0
    change (cfg0.win 7).indexMap (cfg0.grid.coords t) 0 * 1024 + (j 0).val < 11904 at h0
    rw [index0_7] at h0
    exact (h _ _ (j 0).isLt (j 1).isLt (by omega)).symm
  · rw [dif_neg hm]

/-- A block whose places inside the array hold the array's mCode is one the proof data allows. -/
theorem left_8 (c : Dev nD) (t : Fin cfg0.N) (G : ℕ → ℕ → Elt F (cfg0.win 8).elt)
    (h : Inside 1024 11904 (gr t) (gc t) G (glue (mCode (arr2 m c) (arr3 m c) (arr4 m c)))) :
    (cfg0.win 8).fill (cfg0.grid.coords t) (fun y => G (y 0).val (y 1).val) ((cfg0.win 8).cut (cfg0.grid.coords t) ((vdats m 0 c).after 8 t)) = fun y => G (y 0).val (y 1).val := by
  funext j
  unfold Window.fill
  by_cases hm : (cfg0.win 8).moved (cfg0.grid.coords t) j = true
  · rw [dif_pos hm]
    have h0 := lt_of_moved (cfg0.win 8) rfl _ j hm 0
    change (cfg0.win 8).indexMap (cfg0.grid.coords t) 0 * 1024 + (j 0).val < 11904 at h0
    rw [index0_8] at h0
    exact (h _ _ (j 0).isLt (j 1).isLt (by omega)).symm
  · rw [dif_neg hm]

/-- A block whose places inside the array hold the array's mScale is one the proof data allows. -/
theorem left_9 (c : Dev nD) (t : Fin cfg0.N) (G : ℕ → ℕ → Elt F (cfg0.win 9).elt)
    (h : Inside 8 93 (gr t) (gc t) G (sglue (mScale (arr2 m c) (arr3 m c) (arr4 m c)))) :
    (cfg0.win 9).fill (cfg0.grid.coords t) (fun y => G (y 0).val (y 1).val) ((cfg0.win 9).cut (cfg0.grid.coords t) ((vdats m 0 c).after 9 t)) = fun y => G (y 0).val (y 1).val := by
  funext j
  unfold Window.fill
  by_cases hm : (cfg0.win 9).moved (cfg0.grid.coords t) j = true
  · rw [dif_pos hm]
    have h0 := lt_of_moved (cfg0.win 9) rfl _ j hm 0
    change (cfg0.win 9).indexMap (cfg0.grid.coords t) 0 * 8 + (j 0).val < 93 at h0
    rw [index0_9] at h0
    exact (h _ _ (j 0).isLt (j 1).isLt (by omega)).symm
  · rw [dif_neg hm]

/-- A block whose places inside the array hold the array's vCode is one the proof data allows. -/
theorem left_10 (c : Dev nD) (t : Fin cfg0.N) (G : ℕ → ℕ → Elt F (cfg0.win 10).elt)
    (h : Inside 1024 11904 (gr t) (gc t) G (glue (vCode (arr2 m c) (arr5 m c) (arr6 m c)))) :
    (cfg0.win 10).fill (cfg0.grid.coords t) (fun y => G (y 0).val (y 1).val) ((cfg0.win 10).cut (cfg0.grid.coords t) ((vdats m 0 c).after 10 t)) = fun y => G (y 0).val (y 1).val := by
  funext j
  unfold Window.fill
  by_cases hm : (cfg0.win 10).moved (cfg0.grid.coords t) j = true
  · rw [dif_pos hm]
    have h0 := lt_of_moved (cfg0.win 10) rfl _ j hm 0
    change (cfg0.win 10).indexMap (cfg0.grid.coords t) 0 * 1024 + (j 0).val < 11904 at h0
    rw [index0_10] at h0
    exact (h _ _ (j 0).isLt (j 1).isLt (by omega)).symm
  · rw [dif_neg hm]

/-- A block whose places inside the array hold the array's vScale is one the proof data allows. -/
theorem left_11 (c : Dev nD) (t : Fin cfg0.N) (G : ℕ → ℕ → Elt F (cfg0.win 11).elt)
    (h : Inside 8 93 (gr t) (gc t) G (sglue (vScale (arr2 m c) (arr5 m c) (arr6 m c)))) :
    (cfg0.win 11).fill (cfg0.grid.coords t) (fun y => G (y 0).val (y 1).val) ((cfg0.win 11).cut (cfg0.grid.coords t) ((vdats m 0 c).after 11 t)) = fun y => G (y 0).val (y 1).val := by
  funext j
  unfold Window.fill
  by_cases hm : (cfg0.win 11).moved (cfg0.grid.coords t) j = true
  · rw [dif_pos hm]
    have h0 := lt_of_moved (cfg0.win 11) rfl _ j hm 0
    change (cfg0.win 11).indexMap (cfg0.grid.coords t) 0 * 8 + (j 0).val < 93 at h0
    rw [index0_11] at h0
    exact (h _ _ (j 0).isLt (j 1).isLt (by omega)).symm
  · rw [dif_neg hm]

set_option maxHeartbeats 1000000 in
/-- The body's run at a point of the grid: it leaves every output's block holding the arrays' results. -/
theorem vbody (c : Dev nD) :
    BodyObligationLoose (vdats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  rw [vΦ, vΦ, show (vdats m 0 c).owesAt () t.succ = (vdats m 0 c).owesAt () t.castSucc from rfl]
  iintro ⟨⟨⟨%g14, %hg, H14⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [vbefore_0 m c t d0, vbefore_1 m c t d1, vbefore_2 m c t d2, vbefore_3 m c t d3, vbefore_4 m c t d4, vbefore_5 m c t d5, vbefore_6 m c t d6]
  have hc : ¬ first (cfg0.grid.coords t) → g14 = (Memref.isWhole_whole cc0_scratch0).unread (coef ((iblk m c 0 t : Vec F S1x1 .i32) here)) :=
    fun hn => by rw [iblk_0]; exact hg fun h0 => hn (first_of_zero t h0)
  unfold bodyAt0
  iapply (run_value (F := F) c (cfg0.grid.coords t) _ _ _ _ _ _ _ _ _ _ _ _ _ _ _ _ _ _ _ _ _ _ _ _ _ _ (iblk m c 0 t) ((cfg0.win 1).fill (cfg0.grid.coords t) d1 (iblk m c 1 t)) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) g14 hc Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H14]; · rw [show (Memref.whole cc0_scratch0 : Memref sig .tc _ _ _).view.set = Finset.univ from View.set_whole _]; iexact H14
  rw [iblk_0]
  iintro ⟨H0, H1, H2, H3, H4, H5, H6, H7, H8, H9, H10, H11, H14⟩
  isplitl [H14 Hr]
  · isplitl [H14]
    · iexists _; isplitr; · ipureintro; exact fun _ => rfl
      rw [← show (Memref.whole cc0_scratch0 : Memref sig .tc _ _ _).view.set = Finset.univ from View.set_whole _]; iexact H14
    iexact Hr
  isplitl [Ho]; · iexact Ho
  isplitl [H0]; · iexact H0
  isplitl [H1]
  · iexists d1
    rw [show (cfg0.win 1).cut (cfg0.grid.coords t) ((vdats m 0 c).after 1 t) = iblk m c 1 t from (cfg0.win 1).cut_fill _ _ _]
    iexact H1
  isplitl [H2]
  · iexists d2
    rw [show (cfg0.win 2).cut (cfg0.grid.coords t) ((vdats m 0 c).after 2 t) = iblk m c 2 t from (cfg0.win 2).cut_fill _ _ _]
    iexact H2
  isplitl [H3]
  · iexists d3
    rw [show (cfg0.win 3).cut (cfg0.grid.coords t) ((vdats m 0 c).after 3 t) = iblk m c 3 t from (cfg0.win 3).cut_fill _ _ _]
    iexact H3
  isplitl [H4]
  · iexists d4
    rw [show (cfg0.win 4).cut (cfg0.grid.coords t) ((vdats m 0 c).after 4 t) = iblk m c 4 t from (cfg0.win 4).cut_fill _ _ _]
    iexact H4
  isplitl [H5]
  · iexists d5
    rw [show (cfg0.win 5).cut (cfg0.grid.coords t) ((vdats m 0 c).after 5 t) = iblk m c 5 t from (cfg0.win 5).cut_fill _ _ _]
    iexact H5
  isplitl [H6]
  · iexists d6
    rw [show (cfg0.win 6).cut (cfg0.grid.coords t) ((vdats m 0 c).after 6 t) = iblk m c 6 t from (cfg0.win 6).cut_fill _ _ _]
    iexact H6
  isplitl [H7]
  · iexists _
    rw [left_7 m c t _ (delta_shift _ _ (staged_1 m c t d1) (staged_2 m c t d2) (staged_3 m c t d3) (staged_4 m c t d4) (staged_5 m c t d5) (staged_6 m c t d6))]
    iexact H7
  isplitl [H8]
  · iexists _
    rw [left_8 m c t _ (mCode_shift (staged_2 m c t d2) (staged_3 m c t d3) (staged_4 m c t d4))]
    iexact H8
  isplitl [H9]
  · iexists _
    rw [left_9 m c t _ (mScale_shift (staged_2 m c t d2) (staged_3 m c t d3) (staged_4 m c t d4))]
    iexact H9
  isplitl [H10]
  · iexists _
    rw [left_10 m c t _ (vCode_shift (staged_2 m c t d2) (staged_5 m c t d5) (staged_6 m c t d6))]
    iexact H10
  · iexists _
    rw [left_11 m c t _ (vScale_shift (staged_2 m c t d2) (staged_5 m c t d5) (staged_6 m c t d6))]
    iexact H11

set_option backward.isDefEq.respectTransparency.types false in
/-- The launch: it runs to the end with the arrays the proof data says. -/
theorem vrun_main : θ_run defs (onTc (τ := τ) (main (F := F))) (s₀ m ρ) (Pipeline.FramePost cfgs (vdats m) 0 (V m)) :=
  Pipeline.θ_run_frame_track cfgs (vdats m) (0 : Fin 1) launch0 defs₀ Variants.none m ρ main
    (hbody := vbody m) (hshare := fun c => (vdats m 0 c).share_full fun _ => rfl)
    (howed := fun _ _ => rfl) (V := V m) (hmain := hmain m Variants.none) (hA := fun _ _ => rfl)
    (hin := fun c => by
      unfold Pipeline.ΦA; rw [scopedRest0_eq, vΦ]
      iintro ⟨⟨%f, H⟩, Hr⟩
      isplitl [H]
      · iexists f; isplitr; · ipureintro; exact fun h => absurd rfl h
        iexact H
      iexact Hr)
    (hout := fun c => by
      unfold Pipeline.ΦA; rw [scopedRest0_eq, vΦ]
      iintro ⟨⟨%f, -, H⟩, Hr⟩
      isplitl [H]
      · iexists f; iexact H
      iexact Hr)

/-- Every block of the delta array is some point's. -/
theorem covers_7 : (cfg0.win 7).Covers :=
  (cfg0.win 7).covers_of_indexMap_surj rfl (by decide) fun β =>
    ⟨fun (a : Fin 2) => match a with
      | ⟨0, _⟩ => (⟨(β 0).val, (β 0).isLt⟩ : Fin 12)
      | ⟨1, _⟩ => (⟨(β 1).val, (β 1).isLt⟩ : Fin 16), fun (a : Fin 2) => match a with
      | ⟨0, _⟩ => word_toNat (lt_trans (show (β 0).val < 12 from (β 0).isLt) (by decide))
      | ⟨1, _⟩ => word_toNat (show (β 1).val < 16 from (β 1).isLt)⟩

/-- The delta array at the end: glued of its tiles' results. -/
theorem final_7 (c : Dev nD) : (vdats m 0 c).arrAt 7 cfg0.N = fun i => glue (deltaT (cA (tword m c)) (cB (tword m c)) (arr1 m c) (arr2 m c) (arr3 m c) (arr4 m c) (arr5 m c) (arr6 m c)) (i 0).val (i 1).val := by
  refine (vdats m 0 c).arrAt_eq_of_covers 7 _ covers_7 fun t hf y => ?_
  have e0 := index0_7 t
  have e1 := index1_7 t
  refine congrArg₂ (glue (deltaT (cA (tword m c)) (cB (tword m c)) (arr1 m c) (arr2 m c) (arr3 m c) (arr4 m c) (arr5 m c) (arr6 m c))) ?_ ?_
  · blk_simp; rw [show win0_7.index t 0 = gr t from e0]; show 1024 * gr t + (y 0).val = gr t * 1024 + (y 0).val; omega
  · blk_simp; rw [show win0_7.index t 1 = gc t from e1]; show 512 * gc t + (y 1).val = gc t * 512 + (y 1).val; omega

/-- Every block of the mCode array is some point's. -/
theorem covers_8 : (cfg0.win 8).Covers :=
  (cfg0.win 8).covers_of_indexMap_surj rfl (by decide) fun β =>
    ⟨fun (a : Fin 2) => match a with
      | ⟨0, _⟩ => (⟨(β 0).val, (β 0).isLt⟩ : Fin 12)
      | ⟨1, _⟩ => (⟨(β 1).val, (β 1).isLt⟩ : Fin 16), fun (a : Fin 2) => match a with
      | ⟨0, _⟩ => word_toNat (lt_trans (show (β 0).val < 12 from (β 0).isLt) (by decide))
      | ⟨1, _⟩ => word_toNat (show (β 1).val < 16 from (β 1).isLt)⟩

/-- The mCode array at the end: glued of its tiles' results. -/
theorem final_8 (c : Dev nD) : (vdats m 0 c).arrAt 8 cfg0.N = fun i => glue (mCode (arr2 m c) (arr3 m c) (arr4 m c)) (i 0).val (i 1).val := by
  refine (vdats m 0 c).arrAt_eq_of_covers 8 _ covers_8 fun t hf y => ?_
  have e0 := index0_8 t
  have e1 := index1_8 t
  refine congrArg₂ (glue (mCode (arr2 m c) (arr3 m c) (arr4 m c))) ?_ ?_
  · blk_simp; rw [show win0_8.index t 0 = gr t from e0]; show 1024 * gr t + (y 0).val = gr t * 1024 + (y 0).val; omega
  · blk_simp; rw [show win0_8.index t 1 = gc t from e1]; show 512 * gc t + (y 1).val = gc t * 512 + (y 1).val; omega

/-- Every block of the mScale array is some point's. -/
theorem covers_9 : (cfg0.win 9).Covers :=
  (cfg0.win 9).covers_of_indexMap_surj rfl (by decide) fun β =>
    ⟨fun (a : Fin 2) => match a with
      | ⟨0, _⟩ => (⟨(β 0).val, (β 0).isLt⟩ : Fin 12)
      | ⟨1, _⟩ => (⟨(β 1).val, (β 1).isLt⟩ : Fin 16), fun (a : Fin 2) => match a with
      | ⟨0, _⟩ => word_toNat (lt_trans (show (β 0).val < 12 from (β 0).isLt) (by decide))
      | ⟨1, _⟩ => word_toNat (show (β 1).val < 16 from (β 1).isLt)⟩

/-- The mScale array at the end: glued of its tiles' results. -/
theorem final_9 (c : Dev nD) : (vdats m 0 c).arrAt 9 cfg0.N = fun i => sglue (mScale (arr2 m c) (arr3 m c) (arr4 m c)) (i 0).val (i 1).val := by
  refine (vdats m 0 c).arrAt_eq_of_covers 9 _ covers_9 fun t hf y => ?_
  have e0 := index0_9 t
  have e1 := index1_9 t
  refine congrArg₂ (sglue (mScale (arr2 m c) (arr3 m c) (arr4 m c))) ?_ ?_
  · blk_simp; rw [show win0_9.index t 0 = gr t from e0]; show 8 * gr t + (y 0).val = gr t * 8 + (y 0).val; omega
  · blk_simp; rw [show win0_9.index t 1 = gc t from e1]; show 512 * gc t + (y 1).val = gc t * 512 + (y 1).val; omega

/-- Every block of the vCode array is some point's. -/
theorem covers_10 : (cfg0.win 10).Covers :=
  (cfg0.win 10).covers_of_indexMap_surj rfl (by decide) fun β =>
    ⟨fun (a : Fin 2) => match a with
      | ⟨0, _⟩ => (⟨(β 0).val, (β 0).isLt⟩ : Fin 12)
      | ⟨1, _⟩ => (⟨(β 1).val, (β 1).isLt⟩ : Fin 16), fun (a : Fin 2) => match a with
      | ⟨0, _⟩ => word_toNat (lt_trans (show (β 0).val < 12 from (β 0).isLt) (by decide))
      | ⟨1, _⟩ => word_toNat (show (β 1).val < 16 from (β 1).isLt)⟩

/-- The vCode array at the end: glued of its tiles' results. -/
theorem final_10 (c : Dev nD) : (vdats m 0 c).arrAt 10 cfg0.N = fun i => glue (vCode (arr2 m c) (arr5 m c) (arr6 m c)) (i 0).val (i 1).val := by
  refine (vdats m 0 c).arrAt_eq_of_covers 10 _ covers_10 fun t hf y => ?_
  have e0 := index0_10 t
  have e1 := index1_10 t
  refine congrArg₂ (glue (vCode (arr2 m c) (arr5 m c) (arr6 m c))) ?_ ?_
  · blk_simp; rw [show win0_10.index t 0 = gr t from e0]; show 1024 * gr t + (y 0).val = gr t * 1024 + (y 0).val; omega
  · blk_simp; rw [show win0_10.index t 1 = gc t from e1]; show 512 * gc t + (y 1).val = gc t * 512 + (y 1).val; omega

/-- Every block of the vScale array is some point's. -/
theorem covers_11 : (cfg0.win 11).Covers :=
  (cfg0.win 11).covers_of_indexMap_surj rfl (by decide) fun β =>
    ⟨fun (a : Fin 2) => match a with
      | ⟨0, _⟩ => (⟨(β 0).val, (β 0).isLt⟩ : Fin 12)
      | ⟨1, _⟩ => (⟨(β 1).val, (β 1).isLt⟩ : Fin 16), fun (a : Fin 2) => match a with
      | ⟨0, _⟩ => word_toNat (lt_trans (show (β 0).val < 12 from (β 0).isLt) (by decide))
      | ⟨1, _⟩ => word_toNat (show (β 1).val < 16 from (β 1).isLt)⟩

/-- The vScale array at the end: glued of its tiles' results. -/
theorem final_11 (c : Dev nD) : (vdats m 0 c).arrAt 11 cfg0.N = fun i => sglue (vScale (arr2 m c) (arr5 m c) (arr6 m c)) (i 0).val (i 1).val := by
  refine (vdats m 0 c).arrAt_eq_of_covers 11 _ covers_11 fun t hf y => ?_
  have e0 := index0_11 t
  have e1 := index1_11 t
  refine congrArg₂ (sglue (vScale (arr2 m c) (arr5 m c) (arr6 m c))) ?_ ?_
  · blk_simp; rw [show win0_11.index t 0 = gr t from e0]; show 8 * gr t + (y 0).val = gr t * 8 + (y 0).val; omega
  · blk_simp; rw [show win0_11.index t 1 = gc t from e1]; show 512 * gc t + (y 1).val = gc t * 512 + (y 1).val; omega

end Cert.KernelIdeal.Tiles
-- ==== Proof.IdealMath.lean ====
/- The arithmetic the comparison rests on, over the extended reals: what a fixed positive gain on a moment does to a
   block's largest magnitude, its scale, its codes and its update. -/
module

public import Idealize.ShloMosaic.PureOps
public import Idealize.ShloMosaic.PureOps.Ideal
public import Idealize.ShloMosaic.PureOps.Ideal.Laws

@[expose] public section

noncomputable section

namespace Cert.Math

open Idealize.ShloMosaic

/-- The absolute value, as the operations take it. -/
def mag (x : EReal) : EReal := max x (-x)

/-- A finite nonnegative factor distributes over a sum. -/
theorem gain_add {k : ℝ} (hk : 0 ≤ k) (x y : EReal) : (k : EReal) * (x + y) = k * x + k * y :=
  EReal.left_distrib_of_nonneg_of_ne_top (by exact_mod_cast hk) (EReal.coe_ne_top k) x y

/-- A product of two real factors and anything. -/
theorem gain_gain (k l : ℝ) (x : EReal) : (k : EReal) * (l * x) = ((k * l : ℝ) : EReal) * x := by
  rw [← mul_assoc, EReal.coe_mul]

/-- A nonnegative gain moves out of a maximum. -/
theorem gain_max {k : ℝ} (hk : 0 ≤ k) (x y : EReal) : (k : EReal) * max x y = max (k * x) (k * y) := by
  have h : Monotone fun x : EReal => (k : EReal) * x := fun a b hab =>
    mul_le_mul_of_nonneg_left hab (by exact_mod_cast hk)
  exact h.map_max

/-- A nonnegative gain moves out of an absolute value. -/
theorem gain_mag {k : ℝ} (hk : 0 ≤ k) (x : EReal) : mag ((k : EReal) * x) = k * mag x := by
  unfold mag
  rw [gain_max hk, ← mul_neg]

/-- An absolute value is at least zero. -/
theorem mag_nonneg (x : EReal) : 0 ≤ mag x := by
  unfold mag
  rcases le_total 0 x with h | h
  · exact le_max_of_le_left h
  · exact le_max_of_le_right (by rw [← neg_zero]; exact EReal.neg_le_neg_iff.2 h)

/-- The largest magnitude of a block's rows. -/
def amax {n : ℕ} (f : Fin n → EReal) : EReal := (Finset.univ : Finset (Fin n)).fold max ⊥ fun k => mag (f k)

/-- A positive gain on every row is that gain on the largest magnitude. -/
theorem gain_amax {n : ℕ} {k : ℝ} (hk : 0 < k) (f : Fin n → EReal) : amax (fun i => (k : EReal) * f i) = k * amax f := by
  unfold amax
  simp only [gain_mag hk.le]
  have h := Finset.fold_hom (op := max) (op' := max) (b := (⊥ : EReal)) (f := fun i => mag (f i)) (s := (Finset.univ : Finset (Fin n)))
    (m := fun x : EReal => (k : EReal) * x) (fun x y => gain_max hk.le x y)
  rw [EReal.coe_mul_bot_of_pos hk] at h
  exact h

/-- The largest magnitude of a block with a row is at least zero. -/
theorem amax_nonneg {n : ℕ} (f : Fin (n + 1) → EReal) : 0 ≤ amax f := by
  unfold amax
  exact (Finset.le_fold_max 0).2 (Or.inr ⟨0, Finset.mem_univ _, mag_nonneg _⟩)

/-- The scale of a block: its largest magnitude over 127, and one for a block of zeros. -/
def scale (a : EReal) : EReal := if a = 0 then 1 else Ideal.div a ((127 : ℝ) : EReal)

/-- The same scale, from the largest magnitude under a gain, with the gain's inverse folded into the factor. -/
theorem scale_gain {k l : ℝ} (hk : 0 < k) (hl : l * k = 127⁻¹) (a : EReal) :
    (if (k : EReal) * a = 0 then 1 else (k : EReal) * a * (l : EReal)) = scale a := by
  unfold scale
  have h0 : (k : EReal) * a = 0 ↔ a = 0 := by
    rw [mul_eq_zero]
    exact or_iff_right (by exact_mod_cast hk.ne')
  by_cases h : a = 0
  · rw [if_pos h, if_pos (h0.2 h)]
  · rw [if_neg h, if_neg (mt h0.1 h)]
    unfold Ideal.div
    rw [if_neg (by norm_num), mul_comm, ← mul_assoc, ← EReal.coe_mul, hl, ← EReal.coe_inv, mul_comm]

/-- A scale is positive. -/
theorem scale_pos {a : EReal} (ha : 0 ≤ a) : 0 < scale a := by
  unfold scale
  by_cases h : a = 0
  · rw [if_pos h]; exact zero_lt_one
  · rw [if_neg h]
    unfold Ideal.div
    rw [if_neg (by norm_num), ← EReal.coe_inv]
    exact EReal.mul_pos (lt_of_le_of_ne ha (Ne.symm h)) (by exact_mod_cast (by norm_num : (0 : ℝ) < 127⁻¹))

/-- Dividing by a positive scale, through the reciprocal of the scale under the gain: the gain cancels, an infinite scale
    giving zero both ways. -/
theorem ratio_gain {k : ℝ} (hk : 0 < k) {s : EReal} (hs : 0 < s) (x : EReal) :
    (k : EReal) * x * Ideal.div 1 (s * (k : EReal)) = Ideal.div x s := by
  induction s with
  | bot => exact absurd hs (by simp)
  | top =>
    unfold Ideal.div
    rw [EReal.top_mul_coe_of_pos hk, if_neg (by simp), if_neg (by simp), EReal.inv_top, mul_zero, mul_zero, mul_zero]
  | coe r =>
    have hr : (0 : ℝ) < r := by exact_mod_cast hs
    unfold Ideal.div
    rw [← EReal.coe_mul, if_neg (by exact_mod_cast (mul_pos hr hk).ne'), if_neg (by exact_mod_cast hr.ne'), one_mul,
      ← EReal.coe_inv, ← EReal.coe_inv, mul_comm (k : EReal) x, mul_assoc, ← EReal.coe_mul]
    congr 2
    field_simp

/-! ## The constants -/

theorem lit_zero : Ideal.ofBits .f32 0x00000000#32 = 0 := Ideal.ofBits_zero_f32
theorem lit_one : Ideal.ofBits .f32 0x3F800000#32 = ((1 : ℝ) : EReal) := by simp [Ideal.ofBits, Ideal.ieee, -EReal.coe_mul]; norm_num
theorem lit_9 : Ideal.ofBits .f32 0x41100000#32 = ((9 : ℝ) : EReal) := by simp [Ideal.ofBits, Ideal.ieee, -EReal.coe_mul]; norm_num
theorem lit_10 : Ideal.ofBits .f32 0x41200000#32 = ((10 : ℝ) : EReal) := by simp [Ideal.ofBits, Ideal.ieee, -EReal.coe_mul]; norm_num
theorem lit_127 : Ideal.ofBits .f32 0x42FE0000#32 = ((127 : ℝ) : EReal) := by simp [Ideal.ofBits, Ideal.ieee, -EReal.coe_mul]; norm_num
theorem lit_neg_127 : Ideal.ofBits .f32 0xC2FE0000#32 = ((-127 : ℝ) : EReal) := by simp [Ideal.ofBits, Ideal.ieee, -EReal.coe_mul, -EReal.coe_neg]; norm_num
theorem lit_999 : Ideal.ofBits .f32 0x4479C000#32 = ((999 : ℝ) : EReal) := by simp [Ideal.ofBits, Ideal.ieee, -EReal.coe_mul]; norm_num
theorem lit_1000 : Ideal.ofBits .f32 0x447A0000#32 = ((1000 : ℝ) : EReal) := by simp [Ideal.ofBits, Ideal.ieee, -EReal.coe_mul]; norm_num
theorem lit_bot : Ideal.ofBits .f32 0xFF800000#32 = ⊥ := by simp [Ideal.ofBits, Ideal.ieee]
theorem lit_top : Ideal.ofBits .f32 0x7F800000#32 = ⊤ := by simp [Ideal.ofBits, Ideal.ieee]

/-- The least second moment the kernel takes a root of. -/
def tiny : EReal := Ideal.ofBits .f32 0x02081CEA#32

theorem tiny_pos : ∃ r : ℝ, 0 < r ∧ tiny = (r : EReal) := by
  refine ⟨(2 ^ 23 + 531690 : ℕ) * (2 : ℝ) ^ (-146 : ℤ), by positivity, ?_⟩
  unfold tiny
  simp [Ideal.ofBits, Ideal.ieee, -EReal.coe_mul]

/-! ## Codes -/

/-- A code: the ratio rounded to the nearest integer, kept within ±127, as eight bits. -/
def code (r : EReal) : BitVec 8 :=
  Ideal.fptosi 8 (min ((127 : ℝ) : EReal) (max ((-127 : ℝ) : EReal) (Ideal.liftRound Ideal.roundHalfEven r)))

/-! ## The moments under their gains -/

/-- The new first moment. -/
def mNew (mc ms g : EReal) : EReal := ((9 / 10 : ℝ) : EReal) * (mc * ms) + ((1 / 10 : ℝ) : EReal) * g

/-- The new first moment under the gain 10. -/
def mGain (mc ms g : EReal) : EReal := mc * (ms * ((9 : ℝ) : EReal)) + g

/-- The new second moment. -/
def vNew (vc vs g : EReal) : EReal := ((1 / 1000 : ℝ) : EReal) * (g * g) - ((-999 / 1000 : ℝ) : EReal) * (vc * vs)

/-- The new second moment under the gain 1000. -/
def vGain (vc vs g : EReal) : EReal := vc * (vs * ((999 : ℝ) : EReal)) + g * g

theorem mGain_eq (mc ms g : EReal) : mGain mc ms g = ((10 : ℝ) : EReal) * mNew mc ms g := by
  unfold mGain mNew
  rw [gain_add (by norm_num), gain_gain, gain_gain, show (10 * (9 / 10) : ℝ) = 9 by norm_num,
    show (10 * (1 / 10) : ℝ) = 1 by norm_num, EReal.coe_one, one_mul, ← mul_assoc, mul_comm]

theorem vGain_eq (vc vs g : EReal) : vGain vc vs g = ((1000 : ℝ) : EReal) * vNew vc vs g := by
  unfold vGain vNew
  rw [sub_eq_add_neg, ← neg_mul, ← EReal.coe_neg, gain_add (by norm_num), gain_gain, gain_gain,
    show (1000 * (1 / 1000) : ℝ) = 1 by norm_num, show (1000 * -(-999 / 1000) : ℝ) = 999 by norm_num,
    EReal.coe_one, one_mul, add_comm, ← mul_assoc, mul_comm (vc * vs)]

/-! ## The new state, entry by entry -/

/-- A signed code as a number. -/
def num {n : ℕ} (b : BitVec n) : EReal := ((b.toInt : ℝ) : EReal)

/-- The new first moment at row `a` and column `b`. -/
def mFun (g : ℕ → ℕ → EReal) (mc : ℕ → ℕ → BitVec 8) (ms : ℕ → ℕ → EReal) (a b : ℕ) : EReal := mNew (num (mc a b)) (ms (a / 128) b) (g a b)

/-- The new second moment at row `a` and column `b`. -/
def vFun (g : ℕ → ℕ → EReal) (vc : ℕ → ℕ → BitVec 8) (vs : ℕ → ℕ → EReal) (a b : ℕ) : EReal := vNew (num (vc a b)) (vs (a / 128) b) (g a b)

/-- The new scale of block `I` and column `b` of a moment. -/
def scaleFun (f : ℕ → ℕ → EReal) (I b : ℕ) : EReal := scale (amax fun r : Fin 128 => f (128 * I + r.val) b)

/-- The new code at row `a` and column `b` of a moment. -/
def codeFun (f : ℕ → ℕ → EReal) (a b : ℕ) : BitVec 8 := code (Ideal.div (f a b) (scaleFun f (a / 128) b))

/-- A choice made on a comparison with zero. -/
theorem select_zero (x a b : EReal) : Scalar.select (Ideal.cmp .oeq x 0) a b = if x = 0 then a else b := by
  show (if BitVec.ofBool (decide (x = 0)) = 1 then a else b) = _
  by_cases h : x = 0 <;> simp [h]

/-! ## The update -/

/-- A real factor distributes over a sum one term of which is real. -/
theorem real_add (k : ℝ) (x y : EReal) (h : (∃ r : ℝ, x = r) ∨ ∃ r : ℝ, y = r) : (k : EReal) * (x + y) = k * x + k * y := by
  rcases le_total 0 k with hk | hk
  · exact gain_add hk x y
  · have e := gain_add (neg_nonneg.2 hk) x y
    rw [EReal.coe_neg, neg_mul, neg_mul, neg_mul] at e
    have e' := congrArg Neg.neg e
    rw [neg_neg] at e'
    rw [e']
    rcases h with ⟨r, rfl⟩ | ⟨r, rfl⟩
    · rw [← EReal.coe_mul, ← EReal.coe_neg, EReal.neg_add (Or.inl (EReal.coe_ne_bot _)) (Or.inl (EReal.coe_ne_top _)), sub_eq_add_neg, neg_neg, EReal.coe_neg, neg_neg]
    · rw [← EReal.coe_mul, ← EReal.coe_neg, EReal.neg_add (Or.inr (EReal.coe_ne_top _)) (Or.inr (EReal.coe_ne_bot _)), sub_eq_add_neg, neg_neg, EReal.coe_neg, neg_neg]

/-- One minus a power of a number in the open unit interval, at a positive exponent, is a positive real. -/
theorem bias_pos {t l : ℝ} (ht : 0 < t) (hl : l < 0) : ∃ r : ℝ, 0 < r ∧ ((1 : ℝ) : EReal) - Ideal.exp2 ((t : EReal) * (l : EReal)) = r := by
  refine ⟨1 - (2 : ℝ) ^ (t * l), ?_, ?_⟩
  · have := Real.rpow_lt_one_of_one_lt_of_neg (x := 2) (by norm_num) (mul_neg_of_pos_of_neg ht hl)
    linarith
  · rw [← EReal.coe_mul, EReal.coe_sub]
    rfl

/-- One minus a power of a number in the open unit interval, at a negative exponent, is a negative real. -/
theorem bias_neg {t l : ℝ} (ht : t < 0) (hl : l < 0) : ∃ r : ℝ, r < 0 ∧ ((1 : ℝ) : EReal) - Ideal.exp2 ((t : EReal) * (l : EReal)) = r := by
  refine ⟨1 - (2 : ℝ) ^ (t * l), ?_, ?_⟩
  · have := Real.one_lt_rpow (x := 2) (by norm_num) (mul_pos_of_neg_of_neg ht hl)
    linarith
  · rw [← EReal.coe_mul, EReal.coe_sub]
    rfl

/-- A bias correction: one minus the power, `l` the base's logarithm to base two. -/
def bias (w : BitVec 32) (l : ℝ) : EReal := ((1 : ℝ) : EReal) - Ideal.exp2 (num w * (l : EReal))

/-- The logarithms of the two decay rates to base two. -/
def log1 : ℝ := Real.log (9 / 10) * (Real.log 2)⁻¹
def log2 : ℝ := Real.log (999 / 1000) * (Real.log 2)⁻¹

theorem log1_neg : log1 < 0 :=
  mul_neg_of_neg_of_pos (Real.log_neg (by norm_num) (by norm_num)) (inv_pos.2 (Real.log_pos (by norm_num)))
theorem log2_neg : log2 < 0 :=
  mul_neg_of_neg_of_pos (Real.log_neg (by norm_num) (by norm_num)) (inv_pos.2 (Real.log_pos (by norm_num)))

/-- From step one on, a bias correction is a positive real. -/
theorem bias_real {w : BitVec 32} (hw : 1 ≤ w.toInt) {l : ℝ} (hl : l < 0) : ∃ r : ℝ, 0 < r ∧ bias w l = r :=
  bias_pos (by exact_mod_cast (by omega : 0 < w.toInt)) hl

/-- Before step zero, a bias correction is a negative real. -/
theorem bias_real_neg {w : BitVec 32} (hw : w.toInt < 0) {l : ℝ} (hl : l < 0) : ∃ r : ℝ, r < 0 ∧ bias w l = r :=
  bias_neg (by exact_mod_cast hw) hl

/-- A quotient by a real other than zero. -/
theorem div_real (x : EReal) {r : ℝ} (hr : r ≠ 0) : Ideal.div x (r : EReal) = ((r⁻¹ : ℝ) : EReal) * x := by
  unfold Ideal.div
  rw [if_neg (by exact_mod_cast hr), ← EReal.coe_inv, mul_comm]

/-- A root of a real at least zero. -/
theorem sqrt_real {r : ℝ} (hr : 0 ≤ r) : Ideal.sqrt (r : EReal) = ((Real.sqrt r : ℝ) : EReal) := by
  show (if r < 0 then ⊥ else ((Real.sqrt r : ℝ) : EReal)) = _
  rw [if_neg (not_lt.2 hr)]

/-- A root of a negative real is minus infinity. -/
theorem sqrt_neg {r : ℝ} (hr : r < 0) : Ideal.sqrt (r : EReal) = ⊥ := by
  show (if r < 0 then ⊥ else ((Real.sqrt r : ℝ) : EReal)) = _
  rw [if_pos hr]

/-- A quotient by minus infinity is zero. -/
theorem div_bot (x : EReal) : Ideal.div x ⊥ = 0 := by
  unfold Ideal.div
  rw [if_neg (by simp), EReal.inv_bot, mul_zero]

/-- A root plus a positive real is never zero. -/
theorem sqrt_add_ne (z : EReal) {e : ℝ} (he : 0 < e) : Ideal.sqrt z + (e : EReal) ≠ 0 := by
  induction z with
  | bot => show (⊥ : EReal) + (e : EReal) ≠ 0; simp
  | top => show (⊤ : EReal) + (e : EReal) ≠ 0; simp
  | coe r =>
    show (if r < 0 then ⊥ else ((Real.sqrt r : ℝ) : EReal)) + (e : EReal) ≠ 0
    split
    · simp
    · rw [← EReal.coe_add]
      exact_mod_cast (add_pos_of_nonneg_of_pos (Real.sqrt_nonneg r) he).ne'

/-- The update the reference takes, from the new moments and the two bias corrections. -/
def update (mn vn p b1 b2 : EReal) : EReal :=
  ((-1 / 1000 : ℝ) : EReal) * (Ideal.div (Ideal.div mn b1) (Ideal.sqrt (Ideal.div vn b2) + ((1 / 100000000 : ℝ) : EReal)) + ((1 / 100 : ℝ) : EReal) * p)

/-- The update the kernel takes, from the moments under their gains. -/
def updateGain (mt vt p b1 b2 : EReal) : EReal :=
  mt * Ideal.div (((-1 / 10000 : ℝ) : EReal) * Ideal.sqrt (b2 * ((1000 : ℝ) : EReal))) b1
      * Ideal.div ((1 : ℝ) : EReal) (max vt tiny * Ideal.rsqrt (max vt tiny) + ((1 / 100000000 : ℝ) : EReal) * Ideal.sqrt (b2 * ((1000 : ℝ) : EReal)))
    + p * ((-1 / 100000 : ℝ) : EReal)

/-- Where the first moment is zero both updates are the weight decay alone. -/
theorem update_zero (vn vt p : EReal) {b1 b2 : ℝ} (h1 : b1 ≠ 0) : updateGain 0 vt p b1 b2 = update 0 vn p b1 b2 := by
  unfold updateGain update
  rw [zero_mul, zero_mul, zero_add, div_real 0 h1, mul_zero]
  rw [show Ideal.div 0 (Ideal.sqrt (Ideal.div vn b2) + ((1 / 100000000 : ℝ) : EReal)) = 0 by
    unfold Ideal.div; rw [if_neg (sqrt_add_ne _ (by norm_num)), zero_mul]]
  rw [zero_add, gain_gain, mul_comm]
  norm_num

/-- Where the second moment is a real at or above the floor, and the first moment or the parameter is real, the two updates agree. -/
theorem update_real (mn p : EReal) {r b1 b2 : ℝ} (h1 : 0 < b1) (h2 : 0 < b2) (ht : tiny ≤ (r : EReal))
    (hb : (∃ x : ℝ, mn = x) ∨ ∃ x : ℝ, p = x) :
    updateGain (((10 : ℝ) : EReal) * mn) r p b1 b2 = update mn ((r / 1000 : ℝ) : EReal) p b1 b2 := by
  obtain ⟨τ, hτ, et⟩ := tiny_pos
  have hr : 0 < r := lt_of_lt_of_le hτ (by rw [et] at ht; exact_mod_cast ht)
  have hs : 0 < Real.sqrt (b2 * 1000) := Real.sqrt_pos.2 (by positivity)
  have hq : 0 < Real.sqrt r := Real.sqrt_pos.2 hr
  have hE : Real.sqrt (b2 * 1000) * Real.sqrt (b2⁻¹ * (r / 1000)) = Real.sqrt r := by
    rw [← Real.sqrt_mul (by positivity)]
    congr 1
    field_simp
  have hE0 : 0 < Real.sqrt (b2⁻¹ * (r / 1000)) + 1 / 100000000 := by positivity
  have hD0 : 0 < Real.sqrt r + 1 / 100000000 * Real.sqrt (b2 * 1000) := by positivity
  have hroot : (r : EReal) * Ideal.rsqrt (r : EReal) = ((Real.sqrt r : ℝ) : EReal) := by
    show (r : EReal) * (if r < 0 then ⊥ else if r = 0 then ⊤ else (((Real.sqrt r)⁻¹ : ℝ) : EReal)) = _
    rw [if_neg (not_lt.2 hr.le), if_neg hr.ne', ← EReal.coe_mul]
    congr 1
    rw [← div_eq_mul_inv, Real.div_sqrt]
  unfold updateGain update
  rw [max_eq_left ht, hroot, ← EReal.coe_mul b2, sqrt_real (by positivity), ← EReal.coe_mul, ← EReal.coe_mul, ← EReal.coe_add,
    div_real _ hD0.ne', div_real _ h1.ne', ← EReal.coe_mul, ← EReal.coe_mul,
    div_real _ h2.ne', ← EReal.coe_mul, sqrt_real (by positivity), ← EReal.coe_add, div_real _ h1.ne', div_real _ hE0.ne',
    gain_gain]
  rw [real_add _ _ _ (by
    rcases hb with ⟨x, rfl⟩ | ⟨x, rfl⟩
    · exact Or.inl ⟨_, (EReal.coe_mul _ _).symm⟩
    · exact Or.inr ⟨_, (EReal.coe_mul _ _).symm⟩), gain_gain, gain_gain]
  rw [mul_comm (((10 : ℝ) : EReal) * mn), gain_gain, mul_comm (_ * mn), gain_gain, mul_comm p]
  congr 3
  · have hz := hE
    rw [← hE]
    field_simp
    ring
  · norm_num

/-- Where the second moment is a positive real and both bias corrections are negative, both updates are the weight decay alone. -/
theorem update_neg (mn vt p : EReal) {r b1 b2 : ℝ} (h2 : b2 < 0) (hr : 0 < r) :
    updateGain (((10 : ℝ) : EReal) * mn) vt p b1 b2 = update mn ((r / 1000 : ℝ) : EReal) p b1 b2 := by
  unfold updateGain update
  rw [← EReal.coe_mul b2, sqrt_neg (r := b2 * 1000) (by linarith), EReal.coe_mul_bot_of_pos (by norm_num : (0 : ℝ) < 1 / 100000000), EReal.add_bot, div_bot,
    mul_zero, div_real _ h2.ne, ← EReal.coe_mul, sqrt_neg (r := b2⁻¹ * (r / 1000)) (mul_neg_of_neg_of_pos (inv_lt_zero.2 h2) (by positivity)), EReal.bot_add, div_bot,
    zero_add, zero_add, gain_gain, mul_comm]
  norm_num

/-- A finite number is real. -/
theorem real_of_mag {x : EReal} (h : mag x < ⊤) : ∃ r : ℝ, x = r := by
  induction x with
  | bot => exact absurd h (by unfold mag; simp)
  | top => exact absurd h (by unfold mag; simp)
  | coe r => exact ⟨r, rfl⟩

/-- The two updates agree where the second moment is a real at or above the floor or the first moment is zero, one of the
    first moment and the parameter is real, and the step is not zero. -/
theorem update_eq {mn vn p : EReal} {w : BitVec 32}
    (hv : (tiny ≤ ((1000 : ℝ) : EReal) * vn ∧ ((1000 : ℝ) : EReal) * vn < ⊤) ∨ ((10 : ℝ) : EReal) * mn = 0)
    (hb : mag p < ⊤ ∨ mag (((10 : ℝ) : EReal) * mn) < ⊤) (hw : w.toInt ≠ 0) :
    updateGain (((10 : ℝ) : EReal) * mn) (((1000 : ℝ) : EReal) * vn) p (bias w log1) (bias w log2) = update mn vn p (bias w log1) (bias w log2) := by
  have hsign : ∃ b1 b2 : ℝ, bias w log1 = b1 ∧ bias w log2 = b2 ∧ (0 < b1 ∧ 0 < b2 ∨ b1 < 0 ∧ b2 < 0) := by
    rcases lt_or_gt_of_ne hw with h | h
    · obtain ⟨b1, h1, e1⟩ := bias_real_neg h log1_neg
      obtain ⟨b2, h2, e2⟩ := bias_real_neg h log2_neg
      exact ⟨b1, b2, e1, e2, Or.inr ⟨h1, h2⟩⟩
    · obtain ⟨b1, h1, e1⟩ := bias_real (by omega : 1 ≤ w.toInt) log1_neg
      obtain ⟨b2, h2, e2⟩ := bias_real (by omega : 1 ≤ w.toInt) log2_neg
      exact ⟨b1, b2, e1, e2, Or.inl ⟨h1, h2⟩⟩
  obtain ⟨b1, b2, e1, e2, hs⟩ := hsign
  rw [e1, e2]
  rcases hv with ⟨ht, htop⟩ | h0
  · obtain ⟨τ, hτ, et⟩ := tiny_pos
    have hbot : ((1000 : ℝ) : EReal) * vn ≠ ⊥ := ne_of_gt (lt_of_lt_of_le (by rw [et]; exact EReal.bot_lt_coe τ) ht)
    obtain ⟨r, er⟩ : ∃ r : ℝ, ((1000 : ℝ) : EReal) * vn = r := ⟨_, (EReal.coe_toReal (ne_of_lt htop) hbot).symm⟩
    have ev : vn = ((r / 1000 : ℝ) : EReal) := by
      have h := congrArg (fun x : EReal => ((1000⁻¹ : ℝ) : EReal) * x) er
      simp only [gain_gain, ← EReal.coe_mul] at h
      rw [show (1000⁻¹ * 1000 : ℝ) = 1 by norm_num, EReal.coe_one, one_mul] at h
      rw [h, div_eq_inv_mul]
    rw [er] at ht ⊢
    rw [ev]
    rcases hs with ⟨h1, h2⟩ | ⟨_, h2⟩
    swap
    · exact update_neg mn _ p h2 (lt_of_lt_of_le hτ (by rw [et] at ht; exact_mod_cast ht))
    refine update_real mn p h1 h2 ht ?_
    rcases hb with hb | hb
    · exact Or.inr (real_of_mag hb)
    · obtain ⟨x, ex⟩ := real_of_mag hb
      refine Or.inl ⟨10⁻¹ * x, ?_⟩
      rw [EReal.coe_mul, ← ex, gain_gain]
      norm_num
  · have hm : mn = 0 := (mul_eq_zero.1 h0).resolve_left (by norm_num)
    rw [hm, mul_zero]
    exact update_zero _ _ _ (hs.elim (fun h => h.1.ne') fun h => h.1.ne)

end Cert.Math

end
-- ==== Proof.KIRead.lean ====
/- What the kernel leaves in its five result arrays, entry by entry, over the extended reals. -/
module

public import proofs.«01_k».proof.Proof.KIRun
public import proofs.«01_k».proof.Proof.IdealMath
public import Idealize.ShloMosaic.Lib.Pipeline.ValueKit
public import Idealize.ShloMosaic.PureOps.Ideal.Laws

@[expose] public section

noncomputable section

namespace Cert.KernelIdeal.Tiles

open Cert.KernelIdeal Cert.KernelIdeal.Gen Cert.Math
open Idealize.ShloMosaic Idealize.ShloMosaic.TcCoe

/-- The index `a` of a list. -/
def ix1 {n a : ℕ} (ha : a < n) : (⟨1, ![n]⟩ : Shape).Idx
  | ⟨0, _⟩ => ⟨a, ha⟩

/-- A row spread over a tile, at an entry. -/
theorem row_apply (x : FVec Ideal S1x128 .f32) (p : S128x128.Idx) :
    broadcastTo S128x128 x broadcasts_S1x128_S128x128 p = x (ix2 Nat.one_pos (p 1).isLt) :=
  broadcastTo_apply _ _ p _ fun a => match a with
    | ⟨0, _⟩ => rfl
    | ⟨1, _⟩ => rfl

/-- The largest magnitudes of a tile's columns, as a row. -/
def colrow (v : FVec Ideal S128x128 .f32) : FVec Ideal S1x128 .f32 :=
  shapeCast S1x128 (multiReduction .maximumf [0] S128 (absf v) 0xFF800000#32 reduces_S128x128_S128 (.inl rfl) rfl) shapeCasts_S128_S1x128

/-- The same at an entry. -/
theorem colmax (v : FVec Ideal S128x128 .f32) (q : S1x128.Idx) :
    colrow v q
      = amax fun r : Fin 128 => v (ix2 r.isLt (q 1).isLt) := by
  have h0 : (q 0).val < 1 := (q 0).isLt
  unfold colrow
  refine (shapeCast_apply _ _ q (ix1 (q 1).isLt) (by rw [Shape.rowMajor_val_one, Shape.rowMajor_val_two]; show (q 1).val = (q 0).val * 128 + (q 1).val; omega)).trans ?_
  refine (Ideal.multiReduction_maximumf_single (a := 0) (absf v) _ reduces_S128x128_S128 _ _ _).trans ?_
  unfold amax
  show Finset.fold max (Ideal.ofBits .f32 _) _ _ = _
  rw [lit_bot]
  refine Finset.fold_congr fun r _ => ?_
  show mag (v _) = mag (v _)
  exact congrArg (fun x => mag (v x)) (ix2_eq r.isLt (q 1).isLt _ rfl rfl).symm

/-- The first moment under its gain. -/
theorem mT_apply (g : ℕ → ℕ → EReal) (mc : ℕ → ℕ → BitVec 8) (ms : ℕ → ℕ → EReal) (I J : ℕ) (p : S128x128.Idx) :
    mT (F := Ideal) g mc ms I J p = ((10 : ℝ) : EReal) * mFun g mc ms (128 * I + (p 0).val) (128 * J + (p 1).val) := by
  have h0 : (p 0).val < 128 := (p 0).isLt
  unfold mT k0_pay10 k0_pay9 mFun
  rw [← mGain_eq, show (128 * I + (p 0).val) / 128 = I by omega]
  show num _ * broadcastTo S128x128 _ _ p + _ = _
  rw [row_apply]
  show num _ * (ms I _ * Ideal.ofBits .f32 0x41100000#32) + _ = _
  rw [lit_9]
  rfl

/-- The second moment under its gain. -/
theorem vT_apply (g : ℕ → ℕ → EReal) (vc : ℕ → ℕ → BitVec 8) (vs : ℕ → ℕ → EReal) (I J : ℕ) (p : S128x128.Idx) :
    vT (F := Ideal) g vc vs I J p = ((1000 : ℝ) : EReal) * vFun g vc vs (128 * I + (p 0).val) (128 * J + (p 1).val) := by
  have h0 : (p 0).val < 128 := (p 0).isLt
  unfold vT k0_pay11 k0_pay9 vFun
  rw [← vGain_eq, show (128 * I + (p 0).val) / 128 = I by omega]
  show num _ * broadcastTo S128x128 _ _ p + _ = _
  rw [row_apply]
  show num _ * (vs I _ * Ideal.ofBits .f32 0x4479C000#32) + _ = _
  rw [lit_999]
  rfl

/-- The scales of a tile whose largest magnitudes are multiplied by `c`. -/
def rowScale (v : FVec Ideal S128x128 .f32) (c : EReal) : FVec Ideal S1x128 .f32 :=
  select (cmpf .oeq (colrow v) (broadcast S1x128 (Scalar.ofBits .f32 0x00000000#32))) (broadcast S1x128 (Scalar.ofBits .f32 0x3F800000#32))
    (mulf (colrow v) (broadcast S1x128 c))

theorem select_at {s : Shape} {α : Type} (x : IVec s 1) (y z : s.Idx → α) (q : s.Idx) : select x y z q = Scalar.select (x q) (y q) (z q) := rfl
theorem cmpf_at {s : Shape} (x y : FVec Ideal s .f32) (q : s.Idx) : cmpf .oeq x y q = Ideal.cmp .oeq (x q) (y q) := rfl
theorem mulf_at {s : Shape} (x y : FVec Ideal s .f32) (q : s.Idx) : mulf x y q = x q * y q := rfl
theorem splat_at {s : Shape} {α : Type} (x : α) (q : s.Idx) : broadcast s x q = x := rfl

theorem rowScale_apply (v : FVec Ideal S128x128 .f32) (c : EReal) (q : S1x128.Idx) :
    rowScale v c q = Scalar.select (Ideal.cmp .oeq (colrow v q) (Ideal.ofBits .f32 0x00000000#32)) (Ideal.ofBits .f32 0x3F800000#32) (colrow v q * c) := by
  unfold rowScale
  rw [select_at, cmpf_at, mulf_at, splat_at]
  rfl

/-- A tile of a moment under a gain: its scales. -/
theorem scale_tile {k l : ℝ} (hk : 0 < k) (hl : l * k = 127⁻¹) (v : FVec Ideal S128x128 .f32) (f : ℕ → ℕ → EReal) (I J : ℕ)
    (hv : ∀ p, v p = (k : EReal) * f (128 * I + (p 0).val) (128 * J + (p 1).val)) (q : S1x128.Idx) :
    rowScale v (l : EReal) q = scaleFun f I (128 * J + (q 1).val) := by
  rw [rowScale_apply, lit_zero, select_zero, colmax]
  simp only [hv]
  rw [gain_amax hk, lit_one, EReal.coe_one]
  exact scale_gain hk hl _

/-- A tile of a moment under a gain: its codes. -/
theorem code_tile {k : ℝ} (hk : 0 < k) (v : FVec Ideal S128x128 .f32) (s : FVec Ideal S1x128 .f32) (e : EReal) (he : e = (k : EReal)) (f : ℕ → ℕ → EReal) (I J : ℕ)
    (hv : ∀ p, v p = (k : EReal) * f (128 * I + (p 0).val) (128 * J + (p 1).val)) (hs : ∀ q, s q = scaleFun f I (128 * J + (q 1).val)) (p : S128x128.Idx) :
    k0_pay17 (F := Ideal) v s e p = codeFun f (128 * I + (p 0).val) (128 * J + (p 1).val) := by
  have h0 : (p 0).val < 128 := (p 0).isLt
  unfold k0_pay17
  show Ideal.fptosi 8 (min (Ideal.ofBits .f32 0x42FE0000#32) (max (Ideal.ofBits .f32 0xC2FE0000#32) (Ideal.liftRound Ideal.roundHalfEven
    (v p * broadcastTo S128x128 _ _ p)))) = _
  rw [row_apply, lit_127, lit_neg_127]
  show Ideal.fptosi 8 (min _ (max _ (Ideal.liftRound Ideal.roundHalfEven (v p * Ideal.div (Ideal.ofBits .f32 0x3F800000#32) (s _ * e))))) = _
  rw [lit_one, EReal.coe_one, he, hv, hs]
  unfold codeFun
  rw [show (128 * I + (p 0).val) / 128 = I by omega]
  exact congrArg code (ratio_gain hk (scale_pos (amax_nonneg _)) _)

theorem named_m : Named.named (F := Ideal) (φ := .f32) κ "m_gain_over_127" 0x3A4E69A0#32 = ((1 / 1270 : ℝ) : EReal) :=
  IdealRules.named_const.ideal_named_scalar _ _ _ _ rfl
theorem named_v : Named.named (F := Ideal) (φ := .f32) κ "v_gain_over_127" 0x37041AA4#32 = ((1 / 127000 : ℝ) : EReal) :=
  IdealRules.named_const.ideal_named_scalar _ _ _ _ rfl

/-- The first moment's scales, as printed. -/
theorem pay14_eq (v : FVec Ideal S128x128 .f32) :
    k0_pay14 (F := Ideal) v = rowScale v (Named.named (F := Ideal) (φ := .f32) κ "m_gain_over_127" 0x3A4E69A0#32) := rfl

/-- The first moment's scales. -/
theorem mScale_apply (g : ℕ → ℕ → EReal) (mc : ℕ → ℕ → BitVec 8) (ms : ℕ → ℕ → EReal) (I J : ℕ) (q : S1x128.Idx) :
    mScale (F := Ideal) g mc ms I J q = scaleFun (mFun g mc ms) I (128 * J + (q 1).val) := by
  unfold mScale
  rw [pay14_eq, named_m]
  exact scale_tile (k := 10) (by norm_num) (by norm_num) _ _ I J (mT_apply g mc ms I J) q

/-- The second moment's scales, as printed. -/
theorem pay16_eq (v : FVec Ideal S128x128 .f32) :
    k0_pay16 (F := Ideal) v = rowScale v (Named.named (F := Ideal) (φ := .f32) κ "v_gain_over_127" 0x37041AA4#32) := rfl

/-- The second moment's scales. -/
theorem vScale_apply (g : ℕ → ℕ → EReal) (vc : ℕ → ℕ → BitVec 8) (vs : ℕ → ℕ → EReal) (I J : ℕ) (q : S1x128.Idx) :
    vScale (F := Ideal) g vc vs I J q = scaleFun (vFun g vc vs) I (128 * J + (q 1).val) := by
  unfold vScale
  rw [pay16_eq, named_v]
  exact scale_tile (k := 1000) (by norm_num) (by norm_num) _ _ I J (vT_apply g vc vs I J) q

/-- The first moment's codes. -/
theorem mCode_apply (g : ℕ → ℕ → EReal) (mc : ℕ → ℕ → BitVec 8) (ms : ℕ → ℕ → EReal) (I J : ℕ) (p : S128x128.Idx) :
    mCode (F := Ideal) g mc ms I J p = codeFun (mFun g mc ms) (128 * I + (p 0).val) (128 * J + (p 1).val) :=
  code_tile (k := 10) (by norm_num) _ _ _ lit_10 _ I J (mT_apply g mc ms I J) (mScale_apply g mc ms I J) p

/-- The second moment's codes. -/
theorem vCode_apply (g : ℕ → ℕ → EReal) (vc : ℕ → ℕ → BitVec 8) (vs : ℕ → ℕ → EReal) (I J : ℕ) (p : S128x128.Idx) :
    vCode (F := Ideal) g vc vs I J p = codeFun (vFun g vc vs) (128 * I + (p 0).val) (128 * J + (p 1).val) :=
  code_tile (k := 1000) (by norm_num) _ _ _ lit_1000 _ I J (vT_apply g vc vs I J) (vScale_apply g vc vs I J) p

theorem addf_at {s : Shape} (x y : FVec Ideal s .f32) (q : s.Idx) : addf x y q = x q + y q := rfl
theorem divf_at {s : Shape} (x y : FVec Ideal s .f32) (q : s.Idx) : divf x y q = Ideal.div (x q) (y q) := rfl
theorem maximumf_at {s : Shape} (x y : FVec Ideal s .f32) (q : s.Idx) : maximumf x y q = max (x q) (y q) := rfl
theorem rsqrt_at {s : Shape} (x : FVec Ideal s .f32) (q : s.Idx) : rsqrt x q = Ideal.rsqrt (x q) := rfl
theorem bits_at (b : BitVec 32) : Scalar.ofBits (F := Ideal) .f32 b = Ideal.ofBits .f32 b := rfl

theorem named_log1 : Named.named (F := Ideal) (φ := .f32) κ "log2_beta1" 0xBE1BA6B3#32 = (log1 : EReal) :=
  IdealRules.named_const.ideal_named_scalar _ _ _ _ rfl
theorem named_log2 : Named.named (F := Ideal) (φ := .f32) κ "log2_beta2" 0xBABD3108#32 = (log2 : EReal) :=
  IdealRules.named_const.ideal_named_scalar _ _ _ _ rfl
theorem named_lr : Named.named (F := Ideal) (φ := .f32) κ "minus_lr_m_gain" 0xB8D1B717#32 = ((-1 / 10000 : ℝ) : EReal) :=
  IdealRules.named_const.ideal_named_scalar _ _ _ _ rfl
theorem named_eps : Named.named (F := Ideal) (φ := .f32) κ "eps" 0x322BCC77#32 = ((1 / 100000000 : ℝ) : EReal) :=
  IdealRules.named_const.ideal_named_scalar _ _ _ _ rfl
theorem named_wd : Named.named (F := Ideal) (φ := .f32) κ "minus_lr_wd" 0xB727C5AC#32 = ((-1 / 100000 : ℝ) : EReal) :=
  IdealRules.named_const.ideal_named_scalar _ _ _ _ rfl

/-- The root of the second bias correction under the gain. -/
theorem pay2_apply (w : BitVec 32) (k : S8x128.Idx) : k0_pay2 (F := Ideal) w k = Ideal.sqrt (bias w log2 * ((1000 : ℝ) : EReal)) := by
  unfold k0_pay2 k0_pay1 bias
  rw [← named_log2, ← lit_1000, ← lit_one]
  rfl

/-- The first coefficient, the same at every entry. -/
theorem pay3_apply (w : BitVec 32) (y : S1x8x128.Idx) :
    k0_pay3 (F := Ideal) w y = Ideal.div (((-1 / 10000 : ℝ) : EReal) * Ideal.sqrt (bias w log2 * ((1000 : ℝ) : EReal))) (bias w log1) := by
  unfold k0_pay3
  generalize hz : Shape.reshapeEquiv shapeCasts_S8x128_S1x8x128 y = z
  unfold shapeCast
  rw [hz, divf_at, mulf_at, splat_at, pay2_apply, named_lr]
  unfold k0_pay1 bias
  rw [← named_log1, ← lit_one]
  rfl

/-- The second coefficient, the same at every entry. -/
theorem pay4_apply (w : BitVec 32) (y : S1x8x128.Idx) :
    k0_pay4 (F := Ideal) w y = ((1 / 100000000 : ℝ) : EReal) * Ideal.sqrt (bias w log2 * ((1000 : ℝ) : EReal)) := by
  unfold k0_pay4 shapeCast
  rw [mulf_at, splat_at, pay2_apply, named_eps]

/-- The first coefficient as the loop loads it. -/
theorem cA_apply (w : BitVec 32) (x : S1x1x128.Idx) :
    cA (F := Ideal) w x = Ideal.div (((-1 / 10000 : ℝ) : EReal) * Ideal.sqrt (bias w log2 * ((1000 : ℝ) : EReal))) (bias w log1) := by
  have h0 : (x 0).val < 1 := (x 0).isLt
  unfold cA Cert.KernelIdeal.Body.coef
  exact (if_pos (show 0 + 1 * (x 0).val = 0 by omega)).trans (pay3_apply w _)

/-- The second coefficient as the loop loads it. -/
theorem cB_apply (w : BitVec 32) (x : S1x1x128.Idx) :
    cB (F := Ideal) w x = ((1 / 100000000 : ℝ) : EReal) * Ideal.sqrt (bias w log2 * ((1000 : ℝ) : EReal)) := by
  have h0 : (x 0).val < 1 := (x 0).isLt
  unfold cB Cert.KernelIdeal.Body.coef
  exact (if_neg (show ¬ 1 + 1 * (x 0).val = 0 by omega)).trans (pay4_apply w _)

/-- The update at an entry. -/
theorem deltaT_apply (w : BitVec 32) (p g : ℕ → ℕ → EReal) (mc : ℕ → ℕ → BitVec 8) (ms : ℕ → ℕ → EReal) (vc : ℕ → ℕ → BitVec 8) (vs : ℕ → ℕ → EReal)
    (I J : ℕ) (q : S128x128.Idx) :
    deltaT (F := Ideal) (cA w) (cB w) p g mc ms vc vs I J q
      = updateGain (((10 : ℝ) : EReal) * mFun g mc ms (128 * I + (q 0).val) (128 * J + (q 1).val))
          (((1000 : ℝ) : EReal) * vFun g vc vs (128 * I + (q 0).val) (128 * J + (q 1).val)) (p (128 * I + (q 0).val) (128 * J + (q 1).val)) (bias w log1) (bias w log2) := by
  have hA : k0_pay7 (F := Ideal) (cA w) (ix2 Nat.one_pos (q 1).isLt) = _ := cA_apply w _
  have hB : k0_pay8 (F := Ideal) (cB w) (ix2 Nat.one_pos (q 1).isLt) = _ := cB_apply w _
  have hm := mT_apply g mc ms I J q
  have hv := vT_apply g vc vs I J q
  unfold mT at hm
  unfold vT at hv
  unfold deltaT k0_pay13 k0_pay12 updateGain
  rw [addf_at, mulf_at, mulf_at, mulf_at, divf_at, addf_at, mulf_at, rsqrt_at, maximumf_at, row_apply, row_apply, splat_at, splat_at, splat_at, hA, hB, hm, hv,
    named_wd, bits_at, bits_at, lit_one]
  rfl

/-- Tiles of one function put together are that function. -/
theorem glue_apply {α : Type} {T : ℕ → ℕ → S128x128.Idx → α} {f : ℕ → ℕ → α}
    (h : ∀ I J p, T I J p = f (128 * I + (p 0).val) (128 * J + (p 1).val)) (a b : ℕ) : glue T a b = f a b := by
  unfold glue
  rw [h]
  show f (128 * (a / 128) + a % 128) (128 * (b / 128) + b % 128) = _
  rw [Nat.div_add_mod, Nat.div_add_mod]

/-- Pieces of one function's rows put together are that function. -/
theorem sglue_apply {α : Type} {T : ℕ → ℕ → S1x128.Idx → α} {f : ℕ → ℕ → α}
    (h : ∀ I J q, T I J q = f I (128 * J + (q 1).val)) (a b : ℕ) : sglue T a b = f a b := by
  unfold sglue
  rw [h]
  show f a (128 * (b / 128) + b % 128) = _
  rw [Nat.div_add_mod]

end Cert.KernelIdeal.Tiles
-- ==== Proof.RIRead.lean ====
/- What the reference leaves in its five result arrays, entry by entry, over the extended reals. -/
module

public import proofs.«01_k».proof.Proof.RIValue
public import proofs.«01_k».proof.Proof.KIRead

@[expose] public section

noncomputable section

namespace Cert.ReferenceIdeal.Whole

open Cert.ReferenceIdeal Cert.ReferenceIdeal.Gen Cert.Math
open Idealize.ShloMosaic Idealize.ShloMosaic.TcCoe
open Cert.KernelIdeal.Tiles (ix2 ix2_eq ext ext_eq select_at cmpf_at mulf_at splat_at divf_at bits_at addf_at)

/-- The index `(a, b, c)` of a three-dimensional array. -/
def ix3 {n m l a b c : ℕ} (ha : a < n) (hb : b < m) (hc : c < l) : (⟨3, ![n, m, l]⟩ : Shape).Idx
  | ⟨0, _⟩ => ⟨a, ha⟩
  | ⟨1, _⟩ => ⟨b, hb⟩
  | ⟨2, _⟩ => ⟨c, hc⟩

theorem ix3_eq {n m l a b c : ℕ} (ha : a < n) (hb : b < m) (hc : c < l) (j : (⟨3, ![n, m, l]⟩ : Shape).Idx) (h0 : (j 0).val = a)
    (h1 : (j 1).val = b) (h2 : (j 2).val = c) : ix3 ha hb hc = j := by
  funext i
  match i with
  | ⟨0, _⟩ => exact Fin.ext h0.symm
  | ⟨1, _⟩ => exact Fin.ext h1.symm
  | ⟨2, _⟩ => exact Fin.ext h2.symm

/-- Row `128 I + r` of the matrix is row `r` of block `I`. -/
theorem row_lt {I r : ℕ} (h0 : I < 93) (h1 : r < 128) : 128 * I + r < 11904 := by omega

/-- A matrix cut into blocks of 128 rows, at an entry. -/
theorem blocks_apply {α : Type} (x : S11904x8192.Idx → α) (k : S93x128x8192.Idx) :
    shapeCast S93x128x8192 x shapeCasts_S11904x8192_S93x128x8192 k = x (ix2 (row_lt (k 0).isLt (k 1).isLt) (k 2).isLt) := by
  refine shapeCast_apply _ _ k _ ?_
  rw [Shape.rowMajor_val_two, Shape.rowMajor_val_three]
  show (128 * (k 0).val + (k 1).val) * 8192 + (k 2).val = ((k 0).val * 128 + (k 1).val) * 8192 + (k 2).val
  rw [mul_comm 128]

theorem blk_lt {a : ℕ} (h : a < 11904) : a / 128 < 93 := by omega

/-- Blocks of 128 rows put back into a matrix, at an entry. -/
theorem rows_apply {α : Type} (x : S93x128x8192.Idx → α) (j : S11904x8192.Idx) :
    shapeCast S11904x8192 x shapeCasts_S93x128x8192_S11904x8192 j
      = x (ix3 (blk_lt (j 0).isLt) (Nat.mod_lt (j 0).val (by decide : 0 < 128)) (j 1).isLt) := by
  refine shapeCast_apply _ _ j _ ?_
  rw [Shape.rowMajor_val_two, Shape.rowMajor_val_three]
  show ((j 0).val / 128 * 128 + (j 0).val % 128) * 8192 + (j 1).val = (j 0).val * 8192 + (j 1).val
  rw [mul_comm ((j 0).val / 128), Nat.div_add_mod]

/-- One row per block spread over the block, at an entry. -/
theorem spread_apply (x : FVec Ideal S93x8192 .f32) (k : S93x128x8192.Idx) :
    broadcastTo S93x128x8192 (shapeCast S93x1x8192 x shapeCasts_S93x8192_S93x1x8192) broadcasts_S93x1x8192_S93x128x8192 k
      = x (ix2 (k 0).isLt (k 2).isLt) := by
  refine (broadcastTo_apply _ _ k (ix3 (k 0).isLt Nat.one_pos (k 2).isLt) fun a => match a with
    | ⟨0, _⟩ => rfl
    | ⟨1, _⟩ => rfl
    | ⟨2, _⟩ => rfl).trans ?_
  refine shapeCast_apply _ _ _ _ ((Shape.rowMajor_val_two _).trans (Eq.trans ?_ (Shape.rowMajor_val_three _).symm))
  show (k 0).val * 8192 + (k 2).val = ((k 0).val * 1 + 0) * 8192 + (k 2).val
  omega

theorem named_beta1 : Named.named (F := Ideal) (φ := .f32) κ "beta1" 0x3F666666#32 = ((9 / 10 : ℝ) : EReal) :=
  IdealRules.named_const.ideal_named_scalar _ _ _ _ rfl
theorem named_one_minus_beta1 : Named.named (F := Ideal) (φ := .f32) κ "one_minus_beta1" 0x3DCCCCCD#32 = ((1 / 10 : ℝ) : EReal) :=
  IdealRules.named_const.ideal_named_scalar _ _ _ _ rfl
theorem named_minus_beta2 : Named.named (F := Ideal) (φ := .f32) κ "minus_beta2" 0xBF7FBE77#32 = ((-999 / 1000 : ℝ) : EReal) :=
  IdealRules.named_const.ideal_named_scalar _ _ _ _ rfl
theorem named_one_minus_beta2 : Named.named (F := Ideal) (φ := .f32) κ "one_minus_beta2" 0x3A83126F#32 = ((1 / 1000 : ℝ) : EReal) :=
  IdealRules.named_const.ideal_named_scalar _ _ _ _ rfl

/-- The old moment: codes times their block's scale, at an entry. -/
theorem old_apply (c : IVec S11904x8192 8) (s : FVec Ideal S93x8192 .f32) (j : S11904x8192.Idx) :
    shapeCast S11904x8192 (mulf (shapeCast S93x128x8192 (sitofp (F := Ideal) .f32 c) shapeCasts_S11904x8192_S93x128x8192)
        (broadcastTo S93x128x8192 (shapeCast S93x1x8192 s shapeCasts_S93x8192_S93x1x8192) broadcasts_S93x1x8192_S93x128x8192))
      shapeCasts_S93x128x8192_S11904x8192 j
      = num (ext c (j 0).val (j 1).val) * ext (α := EReal) s ((j 0).val / 128) (j 1).val := by
  rw [rows_apply, mulf_at, blocks_apply, spread_apply]
  exact congrArg₂ (· * ·) ((congrArg (fun i => num (c i)) (ix2_eq _ _ j (Nat.div_add_mod _ _).symm rfl)).trans (congrArg num (ext_eq c _ _ j rfl rfl)).symm)
    (ext_eq (α := EReal) s _ _ _ rfl rfl).symm

/-- The new first moment. -/
theorem pay4_apply (g : FVec Ideal S11904x8192 .bf16) (mc : IVec S11904x8192 8) (ms : FVec Ideal S93x8192 .f32) (j : S11904x8192.Idx) :
    k0_pay4 (F := Ideal) g mc ms j = mFun (ext (α := EReal) g) (ext mc) (ext (α := EReal) ms) (j 0).val (j 1).val := by
  unfold k0_pay4 k0_pay3 mFun mNew
  rw [← old_apply, ← named_beta1, ← named_one_minus_beta1, ext_eq (α := EReal) g _ _ j rfl rfl]
  rfl

/-- The new second moment. -/
theorem pay5_apply (g : FVec Ideal S11904x8192 .bf16) (vc : IVec S11904x8192 8) (vs : FVec Ideal S93x8192 .f32) (j : S11904x8192.Idx) :
    k0_pay5 (F := Ideal) g vc vs j = vFun (ext (α := EReal) g) (ext vc) (ext (α := EReal) vs) (j 0).val (j 1).val := by
  unfold k0_pay5 k0_pay3 vFun vNew
  rw [← old_apply, ← named_minus_beta2, ← named_one_minus_beta2, ext_eq (α := EReal) g _ _ j rfl rfl]
  rfl

/-- The largest magnitudes of each block's columns. -/
def blockMax (v : FVec Ideal S93x128x8192 .f32) : FVec Ideal S93x8192 .f32 :=
  multiReduction .maximumf [1] S93x8192 (absf v) 0xFF800000#32 reduces_S93x128x8192_S93x8192 (.inl rfl) rfl

/-- The same at an entry. -/
theorem blockMax_apply (v : FVec Ideal S93x128x8192 .f32) (j : S93x8192.Idx) :
    blockMax v j = amax fun r : Fin 128 => v (ix3 (j 0).isLt r.isLt (j 1).isLt) := by
  unfold blockMax
  refine (Ideal.multiReduction_maximumf_single (a := 1) (absf v) _ reduces_S93x128x8192_S93x8192 _ _ _).trans ?_
  unfold amax
  show Finset.fold max (Ideal.ofBits .f32 _) _ _ = _
  rw [lit_bot]
  refine Finset.fold_congr fun r _ => ?_
  show mag (v _) = mag (v _)
  exact congrArg (fun x => mag (v x)) (ix3_eq (j 0).isLt r.isLt (j 1).isLt _ rfl rfl rfl).symm

/-- The scales, as printed. -/
theorem pay11_eq (v : FVec Ideal S11904x8192 .f32) : k0_pay11 (F := Ideal) v
    = select (cmpf .oeq (blockMax (k0_pay10 v)) (broadcast S93x8192 (Scalar.ofBits .f32 0x00000000#32))) (broadcast S93x8192 (Scalar.ofBits .f32 0x3F800000#32))
        (divf (blockMax (k0_pay10 v)) (broadcast S93x8192 (Scalar.ofBits .f32 0x42FE0000#32))) := rfl

/-- The scales of a moment. -/
theorem pay11_apply (v : FVec Ideal S11904x8192 .f32) (f : ℕ → ℕ → EReal) (hv : ∀ j, v j = f (j 0).val (j 1).val) (j : S93x8192.Idx) :
    k0_pay11 (F := Ideal) v j = scaleFun f (j 0).val (j 1).val := by
  have hb : blockMax (k0_pay10 v) j = amax fun r : Fin 128 => f (128 * (j 0).val + r.val) (j 1).val := by
    rw [blockMax_apply]
    refine congrArg amax (funext fun r => ?_)
    unfold k0_pay10
    rw [blocks_apply, hv]
    rfl
  rw [pay11_eq, select_at, cmpf_at, divf_at, splat_at, splat_at, splat_at, hb, bits_at, bits_at, bits_at, lit_zero, select_zero, lit_one, EReal.coe_one, lit_127]
  rfl

/-- Codes from ratios, at an entry. -/
theorem codes_at {s : Shape} (x : FVec Ideal s .f32) (k : s.Idx) :
    fptosi 8 (minimumf (broadcast s (Scalar.ofBits .f32 0x42FE0000#32)) (maximumf (broadcast s (Scalar.ofBits .f32 0xC2FE0000#32)) (roundeven x))) k = code (x k) := by
  unfold code
  rw [← lit_127, ← lit_neg_127]
  rfl

/-- The codes of a moment. -/
theorem pay12_apply (v : FVec Ideal S11904x8192 .f32) (f : ℕ → ℕ → EReal) (hv : ∀ j, v j = f (j 0).val (j 1).val) (j : S11904x8192.Idx) :
    k0_pay12 (F := Ideal) v j = codeFun f (j 0).val (j 1).val := by
  unfold k0_pay12
  rw [rows_apply, codes_at, divf_at, spread_apply, pay11_apply v f hv]
  unfold k0_pay10
  rw [blocks_apply]
  exact congrArg (fun x => code (Ideal.div x (scaleFun f ((j 0).val / 128) (j 1).val))) ((congrArg v (ix2_eq _ _ j (Nat.div_add_mod _ _).symm rfl)).trans (hv j))

/-- The second moment's scales are made as the first's. -/
theorem vscale_eq (v : FVec Ideal S11904x8192 .f32) : vscale v = k0_pay11 v := rfl

/-- The second moment's codes are made as the first's. -/
theorem vcodes_eq (v : FVec Ideal S11904x8192 .f32) : vcodes v = k0_pay12 v := rfl

theorem named_log1 : Named.named (F := Ideal) (φ := .f32) κ "log2_beta1" 0xBE1BA6B3#32 = (log1 : EReal) :=
  IdealRules.named_const.ideal_named_scalar _ _ _ _ rfl
theorem named_log2 : Named.named (F := Ideal) (φ := .f32) κ "log2_beta2" 0xBABD3108#32 = (log2 : EReal) :=
  IdealRules.named_const.ideal_named_scalar _ _ _ _ rfl
theorem named_lr : Named.named (F := Ideal) (φ := .f32) κ "minus_lr" 0xBA83126F#32 = ((-1 / 1000 : ℝ) : EReal) :=
  IdealRules.named_const.ideal_named_scalar _ _ _ _ rfl
theorem named_eps : Named.named (F := Ideal) (φ := .f32) κ "eps" 0x322BCC77#32 = ((1 / 100000000 : ℝ) : EReal) :=
  IdealRules.named_const.ideal_named_scalar _ _ _ _ rfl
theorem named_wd : Named.named (F := Ideal) (φ := .f32) κ "wd" 0x3C23D70A#32 = ((1 / 100 : ℝ) : EReal) :=
  IdealRules.named_const.ideal_named_scalar _ _ _ _ rfl

theorem sqrt_at {s : Shape} (x : FVec Ideal s .f32) (q : s.Idx) : sqrt x q = Ideal.sqrt (x q) := rfl

/-- The first moment over its bias correction. -/
theorem pay7_apply (g : FVec Ideal S11904x8192 .bf16) (mc : IVec S11904x8192 8) (ms : FVec Ideal S93x8192 .f32) (w : BitVec 32) (j : S11904x8192.Idx) :
    k0_pay7 (F := Ideal) g mc ms w j = Ideal.div (mFun (ext (α := EReal) g) (ext mc) (ext (α := EReal) ms) (j 0).val (j 1).val) (bias w log1) := by
  unfold k0_pay7 k0_pay6 bias
  rw [divf_at, pay4_apply, splat_at, ← named_log1, ← lit_one]
  rfl

/-- The second bias correction, the same at every entry. -/
theorem pay8_apply (w : BitVec 32) (j : S11904x8192.Idx) : k0_pay8 (F := Ideal) w j = bias w log2 := by
  unfold k0_pay8 k0_pay6 bias
  rw [splat_at, ← named_log2, ← lit_one]
  rfl

/-- The update at an entry. -/
theorem pay9_apply (g : FVec Ideal S11904x8192 .bf16) (mc : IVec S11904x8192 8) (ms : FVec Ideal S93x8192 .f32) (vc : IVec S11904x8192 8) (vs : FVec Ideal S93x8192 .f32)
    (w : BitVec 32) (p : FVec Ideal S11904x8192 .f32) (j : S11904x8192.Idx) :
    k0_pay9 (F := Ideal) (k0_pay5 g vc vs) (k0_pay7 g mc ms w) (k0_pay8 w) p j
      = update (mFun (ext (α := EReal) g) (ext mc) (ext (α := EReal) ms) (j 0).val (j 1).val) (vFun (ext (α := EReal) g) (ext vc) (ext (α := EReal) vs) (j 0).val (j 1).val)
          (ext (α := EReal) p (j 0).val (j 1).val) (bias w log1) (bias w log2) := by
  unfold k0_pay9 update
  rw [mulf_at, addf_at, divf_at, addf_at, sqrt_at, divf_at, mulf_at, splat_at, splat_at, splat_at, pay5_apply, pay7_apply, pay8_apply, named_lr, named_eps, named_wd,
    ext_eq (α := EReal) p _ _ j rfl rfl]

end Cert.ReferenceIdeal.Whole
-- ==== Proof.Domain.lean ====
/- The entries the value claim is about: what the printed domain says of an entry of the update. -/
module

public import proofs.«01_k».proof.On_update_defined
public import proofs.«01_k».proof.Proof.RIRead

@[expose] public section

noncomputable section

namespace Cert.On_update_defined

open Idealize.ShloMosaic Cert.Math
open Cert.KernelIdeal.Tiles (ix2 ix2_eq ext ext_eq cmpf_at mulf_at addf_at bits_at)
open Cert.ReferenceIdeal.Whole (ix3 blocks_apply rows_apply)

/-- The domain's shape relations. -/
theorem facts : Facts where
  bitsLt_bf16_f32 := by decide
  shapeCasts_S11904x8192_S93x128x8192 := by decide
  natLt_8_32 := by decide
  bcast_S_S93x8192 := by decide
  bcast_S93x8192_S93x1x8192_0_2 := by decide
  bcast_S93x1x8192_S93x128x8192_0_1_2 := by decide
  shapeCasts_S93x128x8192_S11904x8192 := by decide
  bcast_S_S11904x8192 := by decide

variable [Facts]
open Facts

/-- One row per block spread over the block, at an entry. -/
theorem spread_apply (x : FVec Ideal S93x8192 .f32) (k : S93x128x8192.Idx) :
    broadcastInDim S93x128x8192 ![0, 1, 2] bcast_S93x1x8192_S93x128x8192_0_1_2 (broadcastInDim S93x1x8192 ![0, 2] bcast_S93x8192_S93x1x8192_0_2 x) k
      = x (ix2 (k 0).isLt (k 2).isLt) := by
  refine (broadcastInDim_apply _ _ _ k (ix3 (k 0).isLt Nat.one_pos (k 2).isLt) fun a => match a with
    | ⟨0, _⟩ => rfl
    | ⟨1, _⟩ => rfl
    | ⟨2, _⟩ => rfl).trans ?_
  exact broadcastInDim_apply _ _ _ _ _ fun a => match a with
    | ⟨0, _⟩ => rfl
    | ⟨1, _⟩ => rfl

/-- A code widened to a word is the same number. -/
theorem num_signExtend (b : BitVec 8) : num (b.signExtend 32) = num b := by
  unfold num
  rw [BitVec.toInt_signExtend_of_le (by decide)]

/-- A moment under its gain: codes times their block's scaled scale, plus a term `y`, at an entry. -/
theorem gain_apply (c : IVec S11904x8192 8) (s : FVec Ideal S93x8192 .f32) (k : BitVec 32) (y : FVec Ideal S93x128x8192 .f32) (j : S11904x8192.Idx) :
    shapeCast S11904x8192 (addf (mulf (shapeCast S93x128x8192 (sitofp (F := Ideal) .f32 (extsi 32 c natLt_8_32)) shapeCasts_S11904x8192_S93x128x8192)
        (broadcastInDim S93x128x8192 ![0, 1, 2] bcast_S93x1x8192_S93x128x8192_0_1_2 (broadcastInDim S93x1x8192 ![0, 2] bcast_S93x8192_S93x1x8192_0_2
          (mulf s (broadcastInDim S93x8192 ![] bcast_S_S93x8192 (constant S_ .f32 k)))))) y)
      shapeCasts_S93x128x8192_S11904x8192 j
      = num (ext c (j 0).val (j 1).val) * (ext (α := EReal) s ((j 0).val / 128) (j 1).val * Ideal.ofBits .f32 k)
        + shapeCast S11904x8192 y shapeCasts_S93x128x8192_S11904x8192 j := by
  rw [rows_apply, rows_apply, addf_at, mulf_at, blocks_apply, spread_apply, mulf_at]
  refine congrArg (· + _) (congrArg₂ (· * ·) ?_ ?_)
  · exact (congrArg (fun i => num ((c i).signExtend 32)) (ix2_eq _ _ j (Nat.div_add_mod _ _).symm rfl)).trans
      ((num_signExtend _).trans (congrArg num (ext_eq c _ _ j rfl rfl)).symm)
  · exact congrArg (· * Ideal.ofBits .f32 k) (ext_eq (α := EReal) s _ _ _ rfl rfl).symm

/-- A matrix cut into blocks and put back is itself. -/
theorem rows_blocks (x : FVec Ideal S11904x8192 .f32) (j : S11904x8192.Idx) :
    shapeCast S11904x8192 (shapeCast S93x128x8192 x shapeCasts_S11904x8192_S93x128x8192) shapeCasts_S93x128x8192_S11904x8192 j = x j := by
  rw [rows_apply, blocks_apply]
  exact congrArg x (ix2_eq _ _ j (Nat.div_add_mod _ _).symm rfl)

/-- Blocks of products put back are products. -/
theorem rows_mul (x y : FVec Ideal S93x128x8192 .f32) (j : S11904x8192.Idx) :
    shapeCast S11904x8192 (mulf x y) shapeCasts_S93x128x8192_S11904x8192 j
      = shapeCast S11904x8192 x shapeCasts_S93x128x8192_S11904x8192 j * shapeCast S11904x8192 y shapeCasts_S93x128x8192_S11904x8192 j := rfl

theorem and_one (a b : BitVec 1) : a &&& b = 1#1 ↔ a = 1#1 ∧ b = 1#1 := by revert a b; decide
theorem or_one (a b : BitVec 1) : a ||| b = 1#1 ↔ a = 1#1 ∨ b = 1#1 := by revert a b; decide
theorem bool_one (b : Bool) : BitVec.ofBool b = 1#1 ↔ b = true := by revert b; decide
theorem andi_at {s : Shape} (x y : IVec s 1) (j : s.Idx) : andi x y j = x j &&& y j := rfl
theorem ori_at {s : Shape} (x y : IVec s 1) (j : s.Idx) : ori x y j = x j ||| y j := rfl
theorem oge_one {x : EReal} (h : Ideal.cmp .oge x tiny = 1#1) : tiny ≤ x := of_decide_eq_true ((bool_one _).1 h)
theorem olt_top {x : EReal} (h : Ideal.cmp .olt x (Ideal.ofBits .f32 0x7F800000#32) = 1#1) : x < ⊤ := by
  rw [lit_top] at h
  exact of_decide_eq_true ((bool_one _).1 h)
theorem oeq_one {x : EReal} (h : Ideal.cmp .oeq x (Ideal.ofBits .f32 0x00000000#32) = 1#1) : x = 0 := by
  rw [lit_zero] at h
  exact of_decide_eq_true ((bool_one _).1 h)
theorem ne_zero {w : BitVec 32} (h : IntOp.cmpi .ne w 0#32 = 1#1) : w.toInt ≠ 0 := fun e => by
  rw [BitVec.eq_of_toInt_eq (e.trans BitVec.toInt_zero.symm)] at h
  exact absurd h (by decide)

/-- The first moment under its gain, as the domain computes it. -/
theorem gain_first (g : ℕ → ℕ → EReal) (mc : ℕ → ℕ → BitVec 8) (ms : ℕ → ℕ → EReal) (a b : ℕ) {y : EReal} (hy : y = g a b) :
    num (mc a b) * (ms (a / 128) b * Ideal.ofBits .f32 0x41100000#32) + y = ((10 : ℝ) : EReal) * mFun g mc ms a b := by
  rw [lit_9, hy]
  exact mGain_eq _ _ _

/-- The second moment under its gain, as the domain computes it. -/
theorem gain_second (g : ℕ → ℕ → EReal) (vc : ℕ → ℕ → BitVec 8) (vs : ℕ → ℕ → EReal) (a b : ℕ) {y : EReal} (hy : y = g a b * g a b) :
    num (vc a b) * (vs (a / 128) b * Ideal.ofBits .f32 0x4479C000#32) + y = ((1000 : ℝ) : EReal) * vFun g vc vs a b := by
  rw [lit_999, hy]
  exact vGain_eq _ _ _

/-- On the domain the second moment is a real at or above the floor or the first moment is zero, one of the parameter and the
    first moment is finite, and the step is not zero. -/
theorem domain (p : FVec Ideal S11904x8192 .f32) (g : FVec Ideal S11904x8192 .bf16) (mc : IVec S11904x8192 8) (ms : FVec Ideal S93x8192 .f32)
    (vc : IVec S11904x8192 8) (vs : FVec Ideal S93x8192 .f32) (t : IVec S_ 32) (j : S11904x8192.Idx)
    (h : (fn (F := Ideal) p g mc ms vc vs t).1 j = 1#1) :
    let mn := mFun (ext (α := EReal) g) (ext mc) (ext (α := EReal) ms) (j 0).val (j 1).val
    let vn := vFun (ext (α := EReal) g) (ext vc) (ext (α := EReal) vs) (j 0).val (j 1).val
    ((tiny ≤ ((1000 : ℝ) : EReal) * vn ∧ ((1000 : ℝ) : EReal) * vn < ⊤) ∨ ((10 : ℝ) : EReal) * mn = 0)
      ∧ (mag (ext (α := EReal) p (j 0).val (j 1).val) < ⊤ ∨ mag (((10 : ℝ) : EReal) * mn) < ⊤) ∧ (t (fun a => a.elim0)).toInt ≠ 0 := by
  intro mn vn
  have hm := (gain_apply mc ms 0x41100000#32 (shapeCast S93x128x8192 (extf .f32 g bitsLt_bf16_f32) shapeCasts_S11904x8192_S93x128x8192) j).trans
    (gain_first (ext (α := EReal) g) (ext mc) (ext (α := EReal) ms) _ _ ((rows_blocks _ j).trans (ext_eq (α := EReal) g _ _ j rfl rfl).symm))
  have hv := (gain_apply vc vs 0x4479C000#32 (mulf (shapeCast S93x128x8192 (extf .f32 g bitsLt_bf16_f32) shapeCasts_S11904x8192_S93x128x8192)
      (shapeCast S93x128x8192 (extf .f32 g bitsLt_bf16_f32) shapeCasts_S11904x8192_S93x128x8192)) j).trans
    (gain_second (ext (α := EReal) g) (ext vc) (ext (α := EReal) vs) _ _ ((rows_mul _ _ j).trans
      (congrArg₂ (· * ·) ((rows_blocks _ j).trans (ext_eq (α := EReal) g _ _ j rfl rfl).symm) ((rows_blocks _ j).trans (ext_eq (α := EReal) g _ _ j rfl rfl).symm))))
  unfold fn fn_part1 fn_part2 at h
  dsimp only at h
  rw [andi_at, andi_at, ori_at, ori_at, andi_at, and_one, and_one, or_one, or_one, and_one] at h
  obtain ⟨⟨h1, h2⟩, h3⟩ := h
  refine ⟨h1.imp (fun h => ⟨?_, ?_⟩) fun h => ?_, h2.imp (fun h => ?_) fun h => ?_, ne_zero ((broadcastInDim_apply _ _ (cmpi .ne t (constantI S_ 32 0#32)) j (fun a => a.elim0) fun a => a.elim0).symm.trans h3)⟩
  · exact le_of_le_of_eq (oge_one h.1) hv
  · exact lt_of_eq_of_lt hv.symm (olt_top h.2)
  · exact hm.symm.trans (oeq_one h)
  · exact lt_of_eq_of_lt (congrArg mag (ext_eq (α := EReal) p _ _ j rfl rfl)) (olt_top h)
  · exact lt_of_eq_of_lt (congrArg mag hm.symm) (olt_top h)

end Cert.On_update_defined
-- ==== Proof.Outputs.lean ====
/- The kernel's results and the reference's, each as the same function of the argument arrays. -/
module

public import proofs.«01_k».proof.Proof.Domain

@[expose] public section

noncomputable section

namespace Cert.KernelIdeal.Tiles

open Cert.KernelIdeal Cert.KernelIdeal.Gen Cert.Math Idealize.ShloMosaic Idealize.ShloMosaic.TcCoe

variable (m : (ℓ : Loc nD τ sig) → Buf (Elt Ideal) ℓ) (c : Dev nD)

/-- The step count argument. -/
def step : BitVec 32 := m ((c : Thread nD τ).loc main_arg6) (fun a => a.elim0)

/-- The parameter argument. -/
def param : ℕ → ℕ → EReal := ext (α := EReal) (n := 11904) (m := 8192) (m ((c : Thread nD τ).loc main_arg0))

/-- The new first moment of the arguments. -/
def newM : ℕ → ℕ → EReal :=
  mFun (ext (α := EReal) (n := 11904) (m := 8192) (m ((c : Thread nD τ).loc main_arg1))) (ext (α := BitVec 8) (n := 11904) (m := 8192) (m ((c : Thread nD τ).loc main_arg2))) (ext (α := EReal) (n := 93) (m := 8192) (m ((c : Thread nD τ).loc main_arg3)))

/-- The new second moment of the arguments. -/
def newV : ℕ → ℕ → EReal :=
  vFun (ext (α := EReal) (n := 11904) (m := 8192) (m ((c : Thread nD τ).loc main_arg1))) (ext (α := BitVec 8) (n := 11904) (m := 8192) (m ((c : Thread nD τ).loc main_arg4))) (ext (α := EReal) (n := 93) (m := 8192) (m ((c : Thread nD τ).loc main_arg5)))

theorem tword_eq : tword m c = step m c := by
  unfold tword step
  entry_read
  pointwise
  exact congrArg (m ((c : Thread nD τ).loc main_arg6)) (funext fun a => a.elim0)

theorem arr1_eq : arr1 m c = ext (α := EReal) (n := 11904) (m := 8192) (m ((c : Thread nD τ).loc main_arg0)) := congrArg (ext (n := 11904) (m := 8192)) (V_main_arg0 m c)
theorem arr2_eq : arr2 m c = ext (α := EReal) (n := 11904) (m := 8192) (m ((c : Thread nD τ).loc main_arg1)) := congrArg (ext (n := 11904) (m := 8192)) (V_main_arg1 m c)
theorem arr3_eq : arr3 m c = ext (α := BitVec 8) (n := 11904) (m := 8192) (m ((c : Thread nD τ).loc main_arg2)) := congrArg (ext (n := 11904) (m := 8192)) (V_main_arg2 m c)
theorem arr4_eq : arr4 m c = ext (α := EReal) (n := 93) (m := 8192) (m ((c : Thread nD τ).loc main_arg3)) := congrArg (ext (n := 93) (m := 8192)) (V_main_arg3 m c)
theorem arr5_eq : arr5 m c = ext (α := BitVec 8) (n := 11904) (m := 8192) (m ((c : Thread nD τ).loc main_arg4)) := congrArg (ext (n := 11904) (m := 8192)) (V_main_arg4 m c)
theorem arr6_eq : arr6 m c = ext (α := EReal) (n := 93) (m := 8192) (m ((c : Thread nD τ).loc main_arg5)) := congrArg (ext (n := 93) (m := 8192)) (V_main_arg5 m c)

/-- The update the kernel leaves. -/
theorem out_7 (i : S11904x8192.Idx) : (vdats m 0 c).arrAt 7 cfg0.N i
    = updateGain (((10 : ℝ) : EReal) * newM m c (i 0).val (i 1).val) (((1000 : ℝ) : EReal) * newV m c (i 0).val (i 1).val) (param m c (i 0).val (i 1).val)
        (bias (step m c) log1) (bias (step m c) log2) := by
  rw [final_7, tword_eq, arr1_eq, arr2_eq, arr3_eq, arr4_eq, arr5_eq, arr6_eq]
  exact glue_apply (f := fun a b => updateGain (((10 : ℝ) : EReal) * newM m c a b) (((1000 : ℝ) : EReal) * newV m c a b) (param m c a b)
    (bias (step m c) log1) (bias (step m c) log2)) (deltaT_apply _ _ _ _ _ _ _) _ _

/-- The first moment's codes the kernel leaves. -/
theorem out_8 (i : S11904x8192.Idx) : (vdats m 0 c).arrAt 8 cfg0.N i = codeFun (newM m c) (i 0).val (i 1).val := by
  rw [final_8, arr2_eq, arr3_eq, arr4_eq]
  exact glue_apply (mCode_apply _ _ _) _ _

/-- The first moment's scales the kernel leaves. -/
theorem out_9 (i : S93x8192.Idx) : (vdats m 0 c).arrAt 9 cfg0.N i = scaleFun (newM m c) (i 0).val (i 1).val := by
  rw [final_9, arr2_eq, arr3_eq, arr4_eq]
  exact sglue_apply (mScale_apply _ _ _) _ _

/-- The second moment's codes the kernel leaves. -/
theorem out_10 (i : S11904x8192.Idx) : (vdats m 0 c).arrAt 10 cfg0.N i = codeFun (newV m c) (i 0).val (i 1).val := by
  rw [final_10, arr2_eq, arr5_eq, arr6_eq]
  exact glue_apply (vCode_apply _ _ _) _ _

/-- The second moment's scales the kernel leaves. -/
theorem out_11 (i : S93x8192.Idx) : (vdats m 0 c).arrAt 11 cfg0.N i = scaleFun (newV m c) (i 0).val (i 1).val := by
  rw [final_11, arr2_eq, arr5_eq, arr6_eq]
  exact sglue_apply (vScale_apply _ _ _) _ _

end Cert.KernelIdeal.Tiles

namespace Cert.ReferenceIdeal.Whole

open Cert.ReferenceIdeal Cert.ReferenceIdeal.Gen Cert.Math Idealize.ShloMosaic Idealize.ShloMosaic.TcCoe
open Cert.KernelIdeal.Tiles (ext)

variable (m : (ℓ : Loc nD τ sig) → Buf (Elt Ideal) ℓ) (c : Dev nD)

/-- The step count argument. -/
def step : BitVec 32 := m ((c : Thread nD τ).loc main_arg6) (fun a => a.elim0)

/-- The parameter argument. -/
def param : ℕ → ℕ → EReal := ext (α := EReal) (n := 11904) (m := 8192) (m ((c : Thread nD τ).loc main_arg0))

/-- The new first moment of the arguments. -/
def newM : ℕ → ℕ → EReal :=
  mFun (ext (α := EReal) (n := 11904) (m := 8192) (m ((c : Thread nD τ).loc main_arg1))) (ext (α := BitVec 8) (n := 11904) (m := 8192) (m ((c : Thread nD τ).loc main_arg2))) (ext (α := EReal) (n := 93) (m := 8192) (m ((c : Thread nD τ).loc main_arg3)))

/-- The new second moment of the arguments. -/
def newV : ℕ → ℕ → EReal :=
  vFun (ext (α := EReal) (n := 11904) (m := 8192) (m ((c : Thread nD τ).loc main_arg1))) (ext (α := BitVec 8) (n := 11904) (m := 8192) (m ((c : Thread nD τ).loc main_arg4))) (ext (α := EReal) (n := 93) (m := 8192) (m ((c : Thread nD τ).loc main_arg5)))

/-- The update the reference leaves. -/
theorem out_7 (i : S11904x8192.Idx) : (dats m 0 c).arrAt 7 cfg0.N i
    = update (newM m c (i 0).val (i 1).val) (newV m c (i 0).val (i 1).val) (param m c (i 0).val (i 1).val) (bias (step m c) log1) (bias (step m c) log2) := by
  rw [final_7, word_eq, iblk_1, iblk_2, iblk_3, iblk_4, iblk_5, iblk_6]
  exact pay9_apply _ _ _ _ _ _ _ i

/-- The first moment's codes the reference leaves. -/
theorem out_8 (i : S11904x8192.Idx) : (dats m 0 c).arrAt 8 cfg0.N i = codeFun (newM m c) (i 0).val (i 1).val := by
  rw [final_8, iblk_2, iblk_3, iblk_4]
  exact pay12_apply _ _ (pay4_apply _ _ _) i

/-- The first moment's scales the reference leaves. -/
theorem out_9 (i : S93x8192.Idx) : (dats m 0 c).arrAt 9 cfg0.N i = scaleFun (newM m c) (i 0).val (i 1).val := by
  rw [final_9, iblk_2, iblk_3, iblk_4]
  exact pay11_apply _ _ (pay4_apply _ _ _) i

/-- The second moment's codes the reference leaves. -/
theorem out_10 (i : S11904x8192.Idx) : (dats m 0 c).arrAt 10 cfg0.N i = codeFun (newV m c) (i 0).val (i 1).val := by
  rw [final_10, iblk_2, iblk_5, iblk_6, vcodes_eq]
  exact pay12_apply _ _ (pay5_apply _ _ _) i

/-- The second moment's scales the reference leaves. -/
theorem out_11 (i : S93x8192.Idx) : (dats m 0 c).arrAt 11 cfg0.N i = scaleFun (newV m c) (i 0).val (i 1).val := by
  rw [final_11, iblk_2, iblk_5, iblk_6, vscale_eq]
  exact pay11_apply _ _ (pay5_apply _ _ _) i

end Cert.ReferenceIdeal.Whole
-- ==== Proof.lean ====
module

public import proofs.«01_k».proof.Defs
public import proofs.«01_k».proof.Proof.KFrame
public import proofs.«01_k».proof.Proof.KIFrame
public import proofs.«01_k».proof.Proof.Outputs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- Each named constant has the value the certificate's table gives it. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

section
open Cert.KernelIdeal.Tiles

/-- Memories that agree on the arguments give the two programs the same step count, parameter and new moments, and so the
    same codes and scales everywhere and the same update on the domain. -/
theorem algebraic : Cert.algebraic_KernelIdeal_ReferenceIdeal_on_update_defined (hKernelIdeal := Cert.KernelIdeal.Gen.facts)
    (hReferenceIdeal := Cert.ReferenceIdeal.Gen.facts) (hOn_update_defined := Cert.On_update_defined.facts) := by
  intro m g m' g' _ hargs
  have hstep : ∀ c, Cert.ReferenceIdeal.Whole.step m' c = step m c := fun c => by
    obtain ⟨h0, h1, h2, h3, h4, h5, h6⟩ := hargs c
    exact congrFun h6 _
  have hparam : ∀ c, Cert.ReferenceIdeal.Whole.param m' c = param m c := fun c => by
    obtain ⟨h0, h1, h2, h3, h4, h5, h6⟩ := hargs c
    exact congrArg (ext (α := EReal) (n := 11904) (m := 8192)) h0
  have hM : ∀ c, Cert.ReferenceIdeal.Whole.newM m' c = newM m c := fun c => by
    obtain ⟨h0, h1, h2, h3, h4, h5, h6⟩ := hargs c
    unfold Cert.ReferenceIdeal.Whole.newM newM
    rw [h1, h2, h3]
  have hV : ∀ c, Cert.ReferenceIdeal.Whole.newV m' c = newV m c := fun c => by
    obtain ⟨h0, h1, h2, h3, h4, h5, h6⟩ := hargs c
    unfold Cert.ReferenceIdeal.Whole.newV newV
    rw [h1, h4, h5]
  refine ⟨fun c i => Cert.Math.update (newM m c (i 0).val (i 1).val) (newV m c (i 0).val (i 1).val) (param m c (i 0).val (i 1).val)
      (Cert.Math.bias (step m c) Cert.Math.log1) (Cert.Math.bias (step m c) Cert.Math.log2),
    fun c i => Cert.Math.codeFun (newM m c) (i 0).val (i 1).val, fun c i => Cert.Math.scaleFun (newM m c) (i 0).val (i 1).val,
    fun c i => Cert.Math.codeFun (newV m c) (i 0).val (i 1).val, fun c i => Cert.Math.scaleFun (newV m c) (i 0).val (i 1).val, ?_, ?_⟩
  · refine (θ_run Cert.KernelIdeal.defs _ _).mono (fun r h c => ⟨fun i hi => (congrFun ((h c).1 7) i).trans ((out_7 m c i).trans ?_),
      fun i _ => (congrFun ((h c).1 8) i).trans (out_8 m c i),
      fun i _ => (congrFun ((h c).1 9) i).trans (out_9 m c i),
      fun i _ => (congrFun ((h c).1 10) i).trans (out_10 m c i),
      fun i _ => (congrFun ((h c).1 11) i).trans (out_11 m c i),
      ((h c).1 1).trans (((vdats m 0 c).arrAt_in 1 rfl _).trans (Cert.KernelIdeal.Gen.V_main_arg0 m c)),
      ((h c).1 2).trans (((vdats m 0 c).arrAt_in 2 rfl _).trans (Cert.KernelIdeal.Gen.V_main_arg1 m c)),
      ((h c).1 3).trans (((vdats m 0 c).arrAt_in 3 rfl _).trans (Cert.KernelIdeal.Gen.V_main_arg2 m c)),
      ((h c).1 4).trans (((vdats m 0 c).arrAt_in 4 rfl _).trans (Cert.KernelIdeal.Gen.V_main_arg3 m c)),
      ((h c).1 5).trans (((vdats m 0 c).arrAt_in 5 rfl _).trans (Cert.KernelIdeal.Gen.V_main_arg4 m c)),
      ((h c).1 6).trans (((vdats m 0 c).arrAt_in 6 rfl _).trans (Cert.KernelIdeal.Gen.V_main_arg5 m c)),
      ((h c).2 Cert.KernelIdeal.main_arg6 (Pipeline.mem_restRefs_of Cert.KernelIdeal.main_arg6 (by decide) (by decide))).trans (Cert.KernelIdeal.Gen.V_main_arg6 m c)⟩)
      (vrun_main m g)
    haveI := Cert.On_update_defined.facts
    obtain ⟨hv, hb, ht⟩ := Cert.On_update_defined.domain _ _ _ _ _ _ _ i hi
    exact Cert.Math.update_eq hv hb ht
  · refine (θ_run Cert.ReferenceIdeal.defs _ _).mono (fun r h c => ?_) (Cert.ReferenceIdeal.Value.run_blocks m' g')
    obtain ⟨h7, h8, h9, h10, h11, hkept⟩ := h c
    exact ⟨fun i _ => (congrFun h7 i).trans ((Cert.ReferenceIdeal.Whole.out_7 m' c i).trans (by rw [hstep, hparam, hM, hV])),
      fun i _ => (congrFun h8 i).trans ((Cert.ReferenceIdeal.Whole.out_8 m' c i).trans (by rw [hM])),
      fun i _ => (congrFun h9 i).trans ((Cert.ReferenceIdeal.Whole.out_9 m' c i).trans (by rw [hM])),
      fun i _ => (congrFun h10 i).trans ((Cert.ReferenceIdeal.Whole.out_10 m' c i).trans (by rw [hV])),
      fun i _ => (congrFun h11 i).trans ((Cert.ReferenceIdeal.Whole.out_11 m' c i).trans (by rw [hV])), hkept⟩

end

/-- The certificate's claim: the three frames, the named constants' values, and the equality of the five results. -/
theorem claim : Cert.Claim :=
  ⟨Cert.Kernel.Gen.facts, Cert.KernelIdeal.Gen.facts, Cert.ReferenceIdeal.Gen.facts, Cert.On_update_defined.facts,
    fun m ρ _ => Cert.Kernel.FrameProof.frame m ρ, fun m ρ _ => Cert.KernelIdeal.FrameProof.frame m ρ,
    fun m ρ _ => Cert.ReferenceIdeal.Gen.frame m ρ, preserves, algebraic⟩

end Cert.Proof

end
